-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S8192x4096 : Shape := ⟨2, ![8192, 4096]⟩
abbrev S256x4096 : Shape := ⟨2, ![256, 4096]⟩
abbrev S1024x4096 : Shape := ⟨2, ![1024, 4096]⟩
abbrev S32x256x256 : Shape := ⟨3, ![32, 256, 256]⟩
abbrev S32 : Shape := ⟨1, ![32]⟩
abbrev S_ : Shape := ⟨0, ![]⟩
abbrev S256x256 : Shape := ⟨2, ![256, 256]⟩
abbrev S1x256x256 : Shape := ⟨3, ![1, 256, 256]⟩
abbrev S1 : Shape := ⟨1, ![1]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x4096, .bf16⟩
  | .hbm, ⟨2, _⟩ => ⟨S256x4096, .f32⟩
  | .local _ .vmem, ⟨0, _⟩ => ⟨S8192x256, .bf16⟩
  | .local _ .vmem, ⟨1, _⟩ => ⟨S1024x4096, .bf16⟩
  | .local _ .vmem, ⟨2, _⟩ => ⟨S1024x4096, .bf16⟩
  | .local _ .vmem, ⟨3, _⟩ => ⟨S256x4096, .f32⟩
  | .local _ .vmem, ⟨4, _⟩ => ⟨S8192x256, .bf16⟩
  | .local _ .vmem, ⟨5, _⟩ => ⟨S32x256x256, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 2 68 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 1

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_90 : BitVec 32 := 0#32
  let v200 : BitVec 1 := Scalar.cmpi .ne v2 c0_i32_90
  let v201 : BitVec 32 := Scalar.extui v200
  let c0_i32_91 : BitVec 32 := 0#32
  let v202 : BitVec 1 := Scalar.cmpi .ne v201 c0_i32_91
  v202

def k0_dev1 : Nat :=
  let c0_i32_229 : BitVec 32 := 0#32
  let c0_i32_227 : BitVec 32 := 0#32
  let c1_i32_228 : BitVec 32 := 1#32
  let v404 : BitVec 32 := Scalar.muli c0_i32_227 c1_i32_228
  let v405 : BitVec 32 := Scalar.addi c0_i32_229 v404
  v405.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_92 : BitVec 32 := 1#32
  let v203 : BitVec 1 := Scalar.cmpi .ne v2 c1_i32_92
  let v204 : BitVec 32 := Scalar.extui v203
  let c0_i32_93 : BitVec 32 := 0#32
  let v205 : BitVec 1 := Scalar.cmpi .ne v204 c0_i32_93
  v205

def k0_dev2 : Nat :=
  let c0_i32_229 : BitVec 32 := 0#32
  let c1_i32_227 : BitVec 32 := 1#32
  let c1_i32_228 : BitVec 32 := 1#32
  let v404 : BitVec 32 := Scalar.muli c1_i32_227 c1_i32_228
  let v405 : BitVec 32 := Scalar.addi c0_i32_229 v404
  v405.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_94 : BitVec 32 := 2#32
  let v206 : BitVec 1 := Scalar.cmpi .ne v2 c2_i32_94
  let v207 : BitVec 32 := Scalar.extui v206
  let c0_i32_95 : BitVec 32 := 0#32
  let v208 : BitVec 1 := Scalar.cmpi .ne v207 c0_i32_95
  v208

def k0_dev3 : Nat :=
  let c0_i32_229 : BitVec 32 := 0#32
  let c2_i32_227 : BitVec 32 := 2#32
  let c1_i32_228 : BitVec 32 := 1#32
  let v404 : BitVec 32 := Scalar.muli c2_i32_227 c1_i32_228
  let v405 : BitVec 32 := Scalar.addi c0_i32_229 v404
  v405.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_96 : BitVec 32 := 3#32
  let v209 : BitVec 1 := Scalar.cmpi .ne v2 c3_i32_96
  let v210 : BitVec 32 := Scalar.extui v209
  let c0_i32_97 : BitVec 32 := 0#32
  let v211 : BitVec 1 := Scalar.cmpi .ne v210 c0_i32_97
  v211

def k0_dev4 : Nat :=
  let c0_i32_229 : BitVec 32 := 0#32
  let c3_i32_227 : BitVec 32 := 3#32
  let c1_i32_228 : BitVec 32 := 1#32
  let v404 : BitVec 32 := Scalar.muli c3_i32_227 c1_i32_228
  let v405 : BitVec 32 := Scalar.addi c0_i32_229 v404
  v405.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_98 : BitVec 32 := 4#32
  let v212 : BitVec 1 := Scalar.cmpi .ne v2 c4_i32_98
  let v213 : BitVec 32 := Scalar.extui v212
  let c0_i32_99 : BitVec 32 := 0#32
  let v214 : BitVec 1 := Scalar.cmpi .ne v213 c0_i32_99
  v214

def k0_dev5 : Nat :=
  let c0_i32_229 : BitVec 32 := 0#32
  let c4_i32_227 : BitVec 32 := 4#32
  let c1_i32_228 : BitVec 32 := 1#32
  let v404 : BitVec 32 := Scalar.muli c4_i32_227 c1_i32_228
  let v405 : BitVec 32 := Scalar.addi c0_i32_229 v404
  v405.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_100 : BitVec 32 := 5#32
  let v215 : BitVec 1 := Scalar.cmpi .ne v2 c5_i32_100
  let v216 : BitVec 32 := Scalar.extui v215
  let c0_i32_101 : BitVec 32 := 0#32
  let v217 : BitVec 1 := Scalar.cmpi .ne v216 c0_i32_101
  v217

def k0_dev6 : Nat :=
  let c0_i32_229 : BitVec 32 := 0#32
  let c5_i32_227 : BitVec 32 := 5#32
  let c1_i32_228 : BitVec 32 := 1#32
  let v404 : BitVec 32 := Scalar.muli c5_i32_227 c1_i32_228
  let v405 : BitVec 32 := Scalar.addi c0_i32_229 v404
  v405.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_102 : BitVec 32 := 6#32
  let v218 : BitVec 1 := Scalar.cmpi .ne v2 c6_i32_102
  let v219 : BitVec 32 := Scalar.extui v218
  let c0_i32_103 : BitVec 32 := 0#32
  let v220 : BitVec 1 := Scalar.cmpi .ne v219 c0_i32_103
  v220

def k0_dev7 : Nat :=
  let c0_i32_229 : BitVec 32 := 0#32
  let c6_i32_227 : BitVec 32 := 6#32
  let c1_i32_228 : BitVec 32 := 1#32
  let v404 : BitVec 32 := Scalar.muli c6_i32_227 c1_i32_228
  let v405 : BitVec 32 := Scalar.addi c0_i32_229 v404
  v405.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_104 : BitVec 32 := 7#32
  let v221 : BitVec 1 := Scalar.cmpi .ne v2 c7_i32_104
  let v222 : BitVec 32 := Scalar.extui v221
  let c0_i32_105 : BitVec 32 := 0#32
  let v223 : BitVec 1 := Scalar.cmpi .ne v222 c0_i32_105
  v223

def k0_dev8 : Nat :=
  let c0_i32_229 : BitVec 32 := 0#32
  let c7_i32_227 : BitVec 32 := 7#32
  let c1_i32_228 : BitVec 32 := 1#32
  let v404 : BitVec 32 := Scalar.muli c7_i32_227 c1_i32_228
  let v405 : BitVec 32 := Scalar.addi c0_i32_229 v404
  v405.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_106 : BitVec 32 := 8#32
  let v224 : BitVec 1 := Scalar.cmpi .ne v2 c8_i32_106
  let v225 : BitVec 32 := Scalar.extui v224
  let c0_i32_107 : BitVec 32 := 0#32
  let v226 : BitVec 1 := Scalar.cmpi .ne v225 c0_i32_107
  v226

def k0_dev9 : Nat :=
  let c0_i32_229 : BitVec 32 := 0#32
  let c8_i32_227 : BitVec 32 := 8#32
  let c1_i32_228 : BitVec 32 := 1#32
  let v404 : BitVec 32 := Scalar.muli c8_i32_227 c1_i32_228
  let v405 : BitVec 32 := Scalar.addi c0_i32_229 v404
  v405.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_108 : BitVec 32 := 9#32
  let v227 : BitVec 1 := Scalar.cmpi .ne v2 c9_i32_108
  let v228 : BitVec 32 := Scalar.extui v227
  let c0_i32_109 : BitVec 32 := 0#32
  let v229 : BitVec 1 := Scalar.cmpi .ne v228 c0_i32_109
  v229

def k0_dev10 : Nat :=
  let c0_i32_229 : BitVec 32 := 0#32
  let c9_i32_227 : BitVec 32 := 9#32
  let c1_i32_228 : BitVec 32 := 1#32
  let v404 : BitVec 32 := Scalar.muli c9_i32_227 c1_i32_228
  let v405 : BitVec 32 := Scalar.addi c0_i32_229 v404
  v405.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_110 : BitVec 32 := 10#32
  let v230 : BitVec 1 := Scalar.cmpi .ne v2 c10_i32_110
  let v231 : BitVec 32 := Scalar.extui v230
  let c0_i32_111 : BitVec 32 := 0#32
  let v232 : BitVec 1 := Scalar.cmpi .ne v231 c0_i32_111
  v232

def k0_dev11 : Nat :=
  let c0_i32_229 : BitVec 32 := 0#32
  let c10_i32_227 : BitVec 32 := 10#32
  let c1_i32_228 : BitVec 32 := 1#32
  let v404 : BitVec 32 := Scalar.muli c10_i32_227 c1_i32_228
  let v405 : BitVec 32 := Scalar.addi c0_i32_229 v404
  v405.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_112 : BitVec 32 := 11#32
  let v233 : BitVec 1 := Scalar.cmpi .ne v2 c11_i32_112
  let v234 : BitVec 32 := Scalar.extui v233
  let c0_i32_113 : BitVec 32 := 0#32
  let v235 : BitVec 1 := Scalar.cmpi .ne v234 c0_i32_113
  v235

def k0_dev12 : Nat :=
  let c0_i32_229 : BitVec 32 := 0#32
  let c11_i32_227 : BitVec 32 := 11#32
  let c1_i32_228 : BitVec 32 := 1#32
  let v404 : BitVec 32 := Scalar.muli c11_i32_227 c1_i32_228
  let v405 : BitVec 32 := Scalar.addi c0_i32_229 v404
  v405.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_114 : BitVec 32 := 12#32
  let v236 : BitVec 1 := Scalar.cmpi .ne v2 c12_i32_114
  let v237 : BitVec 32 := Scalar.extui v236
  let c0_i32_115 : BitVec 32 := 0#32
  let v238 : BitVec 1 := Scalar.cmpi .ne v237 c0_i32_115
  v238

def k0_dev13 : Nat :=
  let c0_i32_229 : BitVec 32 := 0#32
  let c12_i32_227 : BitVec 32 := 12#32
  let c1_i32_228 : BitVec 32 := 1#32
  let v404 : BitVec 32 := Scalar.muli c12_i32_227 c1_i32_228
  let v405 : BitVec 32 := Scalar.addi c0_i32_229 v404
  v405.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_116 : BitVec 32 := 13#32
  let v239 : BitVec 1 := Scalar.cmpi .ne v2 c13_i32_116
  let v240 : BitVec 32 := Scalar.extui v239
  let c0_i32_117 : BitVec 32 := 0#32
  let v241 : BitVec 1 := Scalar.cmpi .ne v240 c0_i32_117
  v241

def k0_dev14 : Nat :=
  let c0_i32_229 : BitVec 32 := 0#32
  let c13_i32_227 : BitVec 32 := 13#32
  let c1_i32_228 : BitVec 32 := 1#32
  let v404 : BitVec 32 := Scalar.muli c13_i32_227 c1_i32_228
  let v405 : BitVec 32 := Scalar.addi c0_i32_229 v404
  v405.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_118 : BitVec 32 := 14#32
  let v242 : BitVec 1 := Scalar.cmpi .ne v2 c14_i32_118
  let v243 : BitVec 32 := Scalar.extui v242
  let c0_i32_119 : BitVec 32 := 0#32
  let v244 : BitVec 1 := Scalar.cmpi .ne v243 c0_i32_119
  v244

def k0_dev15 : Nat :=
  let c0_i32_229 : BitVec 32 := 0#32
  let c14_i32_227 : BitVec 32 := 14#32
  let c1_i32_228 : BitVec 32 := 1#32
  let v404 : BitVec 32 := Scalar.muli c14_i32_227 c1_i32_228
  let v405 : BitVec 32 := Scalar.addi c0_i32_229 v404
  v405.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_120 : BitVec 32 := 15#32
  let v245 : BitVec 1 := Scalar.cmpi .ne v2 c15_i32_120
  let v246 : BitVec 32 := Scalar.extui v245
  let c0_i32_121 : BitVec 32 := 0#32
  let v247 : BitVec 1 := Scalar.cmpi .ne v246 c0_i32_121
  v247

def k0_dev16 : Nat :=
  let c0_i32_229 : BitVec 32 := 0#32
  let c15_i32_227 : BitVec 32 := 15#32
  let c1_i32_228 : BitVec 32 := 1#32
  let v404 : BitVec 32 := Scalar.muli c15_i32_227 c1_i32_228
  let v405 : BitVec 32 := Scalar.addi c0_i32_229 v404
  v405.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_122 : BitVec 32 := 16#32
  let v248 : BitVec 1 := Scalar.cmpi .ne v2 c16_i32_122
  let v249 : BitVec 32 := Scalar.extui v248
  let c0_i32_123 : BitVec 32 := 0#32
  let v250 : BitVec 1 := Scalar.cmpi .ne v249 c0_i32_123
  v250

def k0_dev17 : Nat :=
  let c0_i32_229 : BitVec 32 := 0#32
  let c16_i32_227 : BitVec 32 := 16#32
  let c1_i32_228 : BitVec 32 := 1#32
  let v404 : BitVec 32 := Scalar.muli c16_i32_227 c1_i32_228
  let v405 : BitVec 32 := Scalar.addi c0_i32_229 v404
  v405.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_124 : BitVec 32 := 17#32
  let v251 : BitVec 1 := Scalar.cmpi .ne v2 c17_i32_124
  let v252 : BitVec 32 := Scalar.extui v251
  let c0_i32_125 : BitVec 32 := 0#32
  let v253 : BitVec 1 := Scalar.cmpi .ne v252 c0_i32_125
  v253

def k0_dev18 : Nat :=
  let c0_i32_229 : BitVec 32 := 0#32
  let c17_i32_227 : BitVec 32 := 17#32
  let c1_i32_228 : BitVec 32 := 1#32
  let v404 : BitVec 32 := Scalar.muli c17_i32_227 c1_i32_228
  let v405 : BitVec 32 := Scalar.addi c0_i32_229 v404
  v405.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_126 : BitVec 32 := 18#32
  let v254 : BitVec 1 := Scalar.cmpi .ne v2 c18_i32_126
  let v255 : BitVec 32 := Scalar.extui v254
  let c0_i32_127 : BitVec 32 := 0#32
  let v256 : BitVec 1 := Scalar.cmpi .ne v255 c0_i32_127
  v256

def k0_dev19 : Nat :=
  let c0_i32_229 : BitVec 32 := 0#32
  let c18_i32_227 : BitVec 32 := 18#32
  let c1_i32_228 : BitVec 32 := 1#32
  let v404 : BitVec 32 := Scalar.muli c18_i32_227 c1_i32_228
  let v405 : BitVec 32 := Scalar.addi c0_i32_229 v404
  v405.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_128 : BitVec 32 := 19#32
  let v257 : BitVec 1 := Scalar.cmpi .ne v2 c19_i32_128
  let v258 : BitVec 32 := Scalar.extui v257
  let c0_i32_129 : BitVec 32 := 0#32
  let v259 : BitVec 1 := Scalar.cmpi .ne v258 c0_i32_129
  v259

def k0_dev20 : Nat :=
  let c0_i32_229 : BitVec 32 := 0#32
  let c19_i32_227 : BitVec 32 := 19#32
  let c1_i32_228 : BitVec 32 := 1#32
  let v404 : BitVec 32 := Scalar.muli c19_i32_227 c1_i32_228
  let v405 : BitVec 32 := Scalar.addi c0_i32_229 v404
  v405.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_130 : BitVec 32 := 20#32
  let v260 : BitVec 1 := Scalar.cmpi .ne v2 c20_i32_130
  let v261 : BitVec 32 := Scalar.extui v260
  let c0_i32_131 : BitVec 32 := 0#32
  let v262 : BitVec 1 := Scalar.cmpi .ne v261 c0_i32_131
  v262

def k0_dev21 : Nat :=
  let c0_i32_229 : BitVec 32 := 0#32
  let c20_i32_227 : BitVec 32 := 20#32
  let c1_i32_228 : BitVec 32 := 1#32
  let v404 : BitVec 32 := Scalar.muli c20_i32_227 c1_i32_228
  let v405 : BitVec 32 := Scalar.addi c0_i32_229 v404
  v405.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_132 : BitVec 32 := 21#32
  let v263 : BitVec 1 := Scalar.cmpi .ne v2 c21_i32_132
  let v264 : BitVec 32 := Scalar.extui v263
  let c0_i32_133 : BitVec 32 := 0#32
  let v265 : BitVec 1 := Scalar.cmpi .ne v264 c0_i32_133
  v265

def k0_dev22 : Nat :=
  let c0_i32_229 : BitVec 32 := 0#32
  let c21_i32_227 : BitVec 32 := 21#32
  let c1_i32_228 : BitVec 32 := 1#32
  let v404 : BitVec 32 := Scalar.muli c21_i32_227 c1_i32_228
  let v405 : BitVec 32 := Scalar.addi c0_i32_229 v404
  v405.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_134 : BitVec 32 := 22#32
  let v266 : BitVec 1 := Scalar.cmpi .ne v2 c22_i32_134
  let v267 : BitVec 32 := Scalar.extui v266
  let c0_i32_135 : BitVec 32 := 0#32
  let v268 : BitVec 1 := Scalar.cmpi .ne v267 c0_i32_135
  v268

def k0_dev23 : Nat :=
  let c0_i32_229 : BitVec 32 := 0#32
  let c22_i32_227 : BitVec 32 := 22#32
  let c1_i32_228 : BitVec 32 := 1#32
  let v404 : BitVec 32 := Scalar.muli c22_i32_227 c1_i32_228
  let v405 : BitVec 32 := Scalar.addi c0_i32_229 v404
  v405.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_136 : BitVec 32 := 23#32
  let v269 : BitVec 1 := Scalar.cmpi .ne v2 c23_i32_136
  let v270 : BitVec 32 := Scalar.extui v269
  let c0_i32_137 : BitVec 32 := 0#32
  let v271 : BitVec 1 := Scalar.cmpi .ne v270 c0_i32_137
  v271

def k0_dev24 : Nat :=
  let c0_i32_229 : BitVec 32 := 0#32
  let c23_i32_227 : BitVec 32 := 23#32
  let c1_i32_228 : BitVec 32 := 1#32
  let v404 : BitVec 32 := Scalar.muli c23_i32_227 c1_i32_228
  let v405 : BitVec 32 := Scalar.addi c0_i32_229 v404
  v405.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_138 : BitVec 32 := 24#32
  let v272 : BitVec 1 := Scalar.cmpi .ne v2 c24_i32_138
  let v273 : BitVec 32 := Scalar.extui v272
  let c0_i32_139 : BitVec 32 := 0#32
  let v274 : BitVec 1 := Scalar.cmpi .ne v273 c0_i32_139
  v274

def k0_dev25 : Nat :=
  let c0_i32_229 : BitVec 32 := 0#32
  let c24_i32_227 : BitVec 32 := 24#32
  let c1_i32_228 : BitVec 32 := 1#32
  let v404 : BitVec 32 := Scalar.muli c24_i32_227 c1_i32_228
  let v405 : BitVec 32 := Scalar.addi c0_i32_229 v404
  v405.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_140 : BitVec 32 := 25#32
  let v275 : BitVec 1 := Scalar.cmpi .ne v2 c25_i32_140
  let v276 : BitVec 32 := Scalar.extui v275
  let c0_i32_141 : BitVec 32 := 0#32
  let v277 : BitVec 1 := Scalar.cmpi .ne v276 c0_i32_141
  v277

def k0_dev26 : Nat :=
  let c0_i32_229 : BitVec 32 := 0#32
  let c25_i32_227 : BitVec 32 := 25#32
  let c1_i32_228 : BitVec 32 := 1#32
  let v404 : BitVec 32 := Scalar.muli c25_i32_227 c1_i32_228
  let v405 : BitVec 32 := Scalar.addi c0_i32_229 v404
  v405.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_142 : BitVec 32 := 26#32
  let v278 : BitVec 1 := Scalar.cmpi .ne v2 c26_i32_142
  let v279 : BitVec 32 := Scalar.extui v278
  let c0_i32_143 : BitVec 32 := 0#32
  let v280 : BitVec 1 := Scalar.cmpi .ne v279 c0_i32_143
  v280

def k0_dev27 : Nat :=
  let c0_i32_229 : BitVec 32 := 0#32
  let c26_i32_227 : BitVec 32 := 26#32
  let c1_i32_228 : BitVec 32 := 1#32
  let v404 : BitVec 32 := Scalar.muli c26_i32_227 c1_i32_228
  let v405 : BitVec 32 := Scalar.addi c0_i32_229 v404
  v405.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_144 : BitVec 32 := 27#32
  let v281 : BitVec 1 := Scalar.cmpi .ne v2 c27_i32_144
  let v282 : BitVec 32 := Scalar.extui v281
  let c0_i32_145 : BitVec 32 := 0#32
  let v283 : BitVec 1 := Scalar.cmpi .ne v282 c0_i32_145
  v283

def k0_dev28 : Nat :=
  let c0_i32_229 : BitVec 32 := 0#32
  let c27_i32_227 : BitVec 32 := 27#32
  let c1_i32_228 : BitVec 32 := 1#32
  let v404 : BitVec 32 := Scalar.muli c27_i32_227 c1_i32_228
  let v405 : BitVec 32 := Scalar.addi c0_i32_229 v404
  v405.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_146 : BitVec 32 := 28#32
  let v284 : BitVec 1 := Scalar.cmpi .ne v2 c28_i32_146
  let v285 : BitVec 32 := Scalar.extui v284
  let c0_i32_147 : BitVec 32 := 0#32
  let v286 : BitVec 1 := Scalar.cmpi .ne v285 c0_i32_147
  v286

def k0_dev29 : Nat :=
  let c0_i32_229 : BitVec 32 := 0#32
  let c28_i32_227 : BitVec 32 := 28#32
  let c1_i32_228 : BitVec 32 := 1#32
  let v404 : BitVec 32 := Scalar.muli c28_i32_227 c1_i32_228
  let v405 : BitVec 32 := Scalar.addi c0_i32_229 v404
  v405.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_148 : BitVec 32 := 29#32
  let v287 : BitVec 1 := Scalar.cmpi .ne v2 c29_i32_148
  let v288 : BitVec 32 := Scalar.extui v287
  let c0_i32_149 : BitVec 32 := 0#32
  let v289 : BitVec 1 := Scalar.cmpi .ne v288 c0_i32_149
  v289

def k0_dev30 : Nat :=
  let c0_i32_229 : BitVec 32 := 0#32
  let c29_i32_227 : BitVec 32 := 29#32
  let c1_i32_228 : BitVec 32 := 1#32
  let v404 : BitVec 32 := Scalar.muli c29_i32_227 c1_i32_228
  let v405 : BitVec 32 := Scalar.addi c0_i32_229 v404
  v405.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_150 : BitVec 32 := 30#32
  let v290 : BitVec 1 := Scalar.cmpi .ne v2 c30_i32_150
  let v291 : BitVec 32 := Scalar.extui v290
  let c0_i32_151 : BitVec 32 := 0#32
  let v292 : BitVec 1 := Scalar.cmpi .ne v291 c0_i32_151
  v292

def k0_dev31 : Nat :=
  let c0_i32_229 : BitVec 32 := 0#32
  let c30_i32_227 : BitVec 32 := 30#32
  let c1_i32_228 : BitVec 32 := 1#32
  let v404 : BitVec 32 := Scalar.muli c30_i32_227 c1_i32_228
  let v405 : BitVec 32 := Scalar.addi c0_i32_229 v404
  v405.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_152 : BitVec 32 := 31#32
  let v293 : BitVec 1 := Scalar.cmpi .ne v2 c31_i32_152
  let v294 : BitVec 32 := Scalar.extui v293
  let c0_i32_153 : BitVec 32 := 0#32
  let v295 : BitVec 1 := Scalar.cmpi .ne v294 c0_i32_153
  v295

def k0_dev32 : Nat :=
  let c0_i32_229 : BitVec 32 := 0#32
  let c31_i32_227 : BitVec 32 := 31#32
  let c1_i32_228 : BitVec 32 := 1#32
  let v404 : BitVec 32 := Scalar.muli c31_i32_227 c1_i32_228
  let v405 : BitVec 32 := Scalar.addi c0_i32_229 v404
  v405.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v301 : BitVec 32 := Scalar.muli v2 c256_i32
  let v302 : Index := Scalar.indexCast v301
  let c0_159 : Index := 0#32
  ![v302.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v304 : Index := Scalar.indexCast v2
  let c0_160 : Index := 0#32
  let c0_161 : Index := 0#32
  ![v304.toNat, 0, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_162 : BitVec 32 := 0#32
  let v308 : BitVec 1 := Scalar.cmpi .ne v2 c0_i32_162
  let v309 : BitVec 32 := Scalar.extui v308
  let c0_i32_163 : BitVec 32 := 0#32
  let v310 : BitVec 1 := Scalar.cmpi .ne v309 c0_i32_163
  v310

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev33 : Nat :=
  let c0_i32_229 : BitVec 32 := 0#32
  let c0_i32_227 : BitVec 32 := 0#32
  let c1_i32_228 : BitVec 32 := 1#32
  let v404 : BitVec 32 := Scalar.muli c0_i32_227 c1_i32_228
  let v405 : BitVec 32 := Scalar.addi c0_i32_229 v404
  v405.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_164 : BitVec 32 := 1#32
  let v311 : BitVec 1 := Scalar.cmpi .ne v2 c1_i32_164
  let v312 : BitVec 32 := Scalar.extui v311
  let c0_i32_165 : BitVec 32 := 0#32
  let v313 : BitVec 1 := Scalar.cmpi .ne v312 c0_i32_165
  v313

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev34 : Nat :=
  let c0_i32_229 : BitVec 32 := 0#32
  let c1_i32_227 : BitVec 32 := 1#32
  let c1_i32_228 : BitVec 32 := 1#32
  let v404 : BitVec 32 := Scalar.muli c1_i32_227 c1_i32_228
  let v405 : BitVec 32 := Scalar.addi c0_i32_229 v404
  v405.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v314 : BitVec 1 := Scalar.cmpi .ne v2 c2_i32_166
  let v315 : BitVec 32 := Scalar.extui v314
  let c0_i32_167 : BitVec 32 := 0#32
  let v316 : BitVec 1 := Scalar.cmpi .ne v315 c0_i32_167
  v316

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev35 : Nat :=
  let c0_i32_229 : BitVec 32 := 0#32
  let c2_i32_227 : BitVec 32 := 2#32
  let c1_i32_228 : BitVec 32 := 1#32
  let v404 : BitVec 32 := Scalar.muli c2_i32_227 c1_i32_228
  let v405 : BitVec 32 := Scalar.addi c0_i32_229 v404
  v405.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_168 : BitVec 32 := 3#32
  let v317 : BitVec 1 := Scalar.cmpi .ne v2 c3_i32_168
  let v318 : BitVec 32 := Scalar.extui v317
  let c0_i32_169 : BitVec 32 := 0#32
  let v319 : BitVec 1 := Scalar.cmpi .ne v318 c0_i32_169
  v319

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev36 : Nat :=
  let c0_i32_229 : BitVec 32 := 0#32
  let c3_i32_227 : BitVec 32 := 3#32
  let c1_i32_228 : BitVec 32 := 1#32
  let v404 : BitVec 32 := Scalar.muli c3_i32_227 c1_i32_228
  let v405 : BitVec 32 := Scalar.addi c0_i32_229 v404
  v405.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_170 : BitVec 32 := 4#32
  let v320 : BitVec 1 := Scalar.cmpi .ne v2 c4_i32_170
  let v321 : BitVec 32 := Scalar.extui v320
  let c0_i32_171 : BitVec 32 := 0#32
  let v322 : BitVec 1 := Scalar.cmpi .ne v321 c0_i32_171
  v322

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev37 : Nat :=
  let c0_i32_229 : BitVec 32 := 0#32
  let c4_i32_227 : BitVec 32 := 4#32
  let c1_i32_228 : BitVec 32 := 1#32
  let v404 : BitVec 32 := Scalar.muli c4_i32_227 c1_i32_228
  let v405 : BitVec 32 := Scalar.addi c0_i32_229 v404
  v405.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_172 : BitVec 32 := 5#32
  let v323 : BitVec 1 := Scalar.cmpi .ne v2 c5_i32_172
  let v324 : BitVec 32 := Scalar.extui v323
  let c0_i32_173 : BitVec 32 := 0#32
  let v325 : BitVec 1 := Scalar.cmpi .ne v324 c0_i32_173
  v325

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev38 : Nat :=
  let c0_i32_229 : BitVec 32 := 0#32
  let c5_i32_227 : BitVec 32 := 5#32
  let c1_i32_228 : BitVec 32 := 1#32
  let v404 : BitVec 32 := Scalar.muli c5_i32_227 c1_i32_228
  let v405 : BitVec 32 := Scalar.addi c0_i32_229 v404
  v405.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_174 : BitVec 32 := 6#32
  let v326 : BitVec 1 := Scalar.cmpi .ne v2 c6_i32_174
  let v327 : BitVec 32 := Scalar.extui v326
  let c0_i32_175 : BitVec 32 := 0#32
  let v328 : BitVec 1 := Scalar.cmpi .ne v327 c0_i32_175
  v328

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev39 : Nat :=
  let c0_i32_229 : BitVec 32 := 0#32
  let c6_i32_227 : BitVec 32 := 6#32
  let c1_i32_228 : BitVec 32 := 1#32
  let v404 : BitVec 32 := Scalar.muli c6_i32_227 c1_i32_228
  let v405 : BitVec 32 := Scalar.addi c0_i32_229 v404
  v405.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_176 : BitVec 32 := 7#32
  let v329 : BitVec 1 := Scalar.cmpi .ne v2 c7_i32_176
  let v330 : BitVec 32 := Scalar.extui v329
  let c0_i32_177 : BitVec 32 := 0#32
  let v331 : BitVec 1 := Scalar.cmpi .ne v330 c0_i32_177
  v331

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev40 : Nat :=
  let c0_i32_229 : BitVec 32 := 0#32
  let c7_i32_227 : BitVec 32 := 7#32
  let c1_i32_228 : BitVec 32 := 1#32
  let v404 : BitVec 32 := Scalar.muli c7_i32_227 c1_i32_228
  let v405 : BitVec 32 := Scalar.addi c0_i32_229 v404
  v405.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_178 : BitVec 32 := 8#32
  let v332 : BitVec 1 := Scalar.cmpi .ne v2 c8_i32_178
  let v333 : BitVec 32 := Scalar.extui v332
  let c0_i32_179 : BitVec 32 := 0#32
  let v334 : BitVec 1 := Scalar.cmpi .ne v333 c0_i32_179
  v334

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev41 : Nat :=
  let c0_i32_229 : BitVec 32 := 0#32
  let c8_i32_227 : BitVec 32 := 8#32
  let c1_i32_228 : BitVec 32 := 1#32
  let v404 : BitVec 32 := Scalar.muli c8_i32_227 c1_i32_228
  let v405 : BitVec 32 := Scalar.addi c0_i32_229 v404
  v405.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_180 : BitVec 32 := 9#32
  let v335 : BitVec 1 := Scalar.cmpi .ne v2 c9_i32_180
  let v336 : BitVec 32 := Scalar.extui v335
  let c0_i32_181 : BitVec 32 := 0#32
  let v337 : BitVec 1 := Scalar.cmpi .ne v336 c0_i32_181
  v337

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev42 : Nat :=
  let c0_i32_229 : BitVec 32 := 0#32
  let c9_i32_227 : BitVec 32 := 9#32
  let c1_i32_228 : BitVec 32 := 1#32
  let v404 : BitVec 32 := Scalar.muli c9_i32_227 c1_i32_228
  let v405 : BitVec 32 := Scalar.addi c0_i32_229 v404
  v405.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_182 : BitVec 32 := 10#32
  let v338 : BitVec 1 := Scalar.cmpi .ne v2 c10_i32_182
  let v339 : BitVec 32 := Scalar.extui v338
  let c0_i32_183 : BitVec 32 := 0#32
  let v340 : BitVec 1 := Scalar.cmpi .ne v339 c0_i32_183
  v340

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev43 : Nat :=
  let c0_i32_229 : BitVec 32 := 0#32
  let c10_i32_227 : BitVec 32 := 10#32
  let c1_i32_228 : BitVec 32 := 1#32
  let v404 : BitVec 32 := Scalar.muli c10_i32_227 c1_i32_228
  let v405 : BitVec 32 := Scalar.addi c0_i32_229 v404
  v405.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_184 : BitVec 32 := 11#32
  let v341 : BitVec 1 := Scalar.cmpi .ne v2 c11_i32_184
  let v342 : BitVec 32 := Scalar.extui v341
  let c0_i32_185 : BitVec 32 := 0#32
  let v343 : BitVec 1 := Scalar.cmpi .ne v342 c0_i32_185
  v343

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev44 : Nat :=
  let c0_i32_229 : BitVec 32 := 0#32
  let c11_i32_227 : BitVec 32 := 11#32
  let c1_i32_228 : BitVec 32 := 1#32
  let v404 : BitVec 32 := Scalar.muli c11_i32_227 c1_i32_228
  let v405 : BitVec 32 := Scalar.addi c0_i32_229 v404
  v405.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_186 : BitVec 32 := 12#32
  let v344 : BitVec 1 := Scalar.cmpi .ne v2 c12_i32_186
  let v345 : BitVec 32 := Scalar.extui v344
  let c0_i32_187 : BitVec 32 := 0#32
  let v346 : BitVec 1 := Scalar.cmpi .ne v345 c0_i32_187
  v346

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev45 : Nat :=
  let c0_i32_229 : BitVec 32 := 0#32
  let c12_i32_227 : BitVec 32 := 12#32
  let c1_i32_228 : BitVec 32 := 1#32
  let v404 : BitVec 32 := Scalar.muli c12_i32_227 c1_i32_228
  let v405 : BitVec 32 := Scalar.addi c0_i32_229 v404
  v405.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_188 : BitVec 32 := 13#32
  let v347 : BitVec 1 := Scalar.cmpi .ne v2 c13_i32_188
  let v348 : BitVec 32 := Scalar.extui v347
  let c0_i32_189 : BitVec 32 := 0#32
  let v349 : BitVec 1 := Scalar.cmpi .ne v348 c0_i32_189
  v349

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev46 : Nat :=
  let c0_i32_229 : BitVec 32 := 0#32
  let c13_i32_227 : BitVec 32 := 13#32
  let c1_i32_228 : BitVec 32 := 1#32
  let v404 : BitVec 32 := Scalar.muli c13_i32_227 c1_i32_228
  let v405 : BitVec 32 := Scalar.addi c0_i32_229 v404
  v405.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_190 : BitVec 32 := 14#32
  let v350 : BitVec 1 := Scalar.cmpi .ne v2 c14_i32_190
  let v351 : BitVec 32 := Scalar.extui v350
  let c0_i32_191 : BitVec 32 := 0#32
  let v352 : BitVec 1 := Scalar.cmpi .ne v351 c0_i32_191
  v352

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev47 : Nat :=
  let c0_i32_229 : BitVec 32 := 0#32
  let c14_i32_227 : BitVec 32 := 14#32
  let c1_i32_228 : BitVec 32 := 1#32
  let v404 : BitVec 32 := Scalar.muli c14_i32_227 c1_i32_228
  let v405 : BitVec 32 := Scalar.addi c0_i32_229 v404
  v405.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_192 : BitVec 32 := 15#32
  let v353 : BitVec 1 := Scalar.cmpi .ne v2 c15_i32_192
  let v354 : BitVec 32 := Scalar.extui v353
  let c0_i32_193 : BitVec 32 := 0#32
  let v355 : BitVec 1 := Scalar.cmpi .ne v354 c0_i32_193
  v355

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev48 : Nat :=
  let c0_i32_229 : BitVec 32 := 0#32
  let c15_i32_227 : BitVec 32 := 15#32
  let c1_i32_228 : BitVec 32 := 1#32
  let v404 : BitVec 32 := Scalar.muli c15_i32_227 c1_i32_228
  let v405 : BitVec 32 := Scalar.addi c0_i32_229 v404
  v405.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_194 : BitVec 32 := 16#32
  let v356 : BitVec 1 := Scalar.cmpi .ne v2 c16_i32_194
  let v357 : BitVec 32 := Scalar.extui v356
  let c0_i32_195 : BitVec 32 := 0#32
  let v358 : BitVec 1 := Scalar.cmpi .ne v357 c0_i32_195
  v358

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev49 : Nat :=
  let c0_i32_229 : BitVec 32 := 0#32
  let c16_i32_227 : BitVec 32 := 16#32
  let c1_i32_228 : BitVec 32 := 1#32
  let v404 : BitVec 32 := Scalar.muli c16_i32_227 c1_i32_228
  let v405 : BitVec 32 := Scalar.addi c0_i32_229 v404
  v405.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_196 : BitVec 32 := 17#32
  let v359 : BitVec 1 := Scalar.cmpi .ne v2 c17_i32_196
  let v360 : BitVec 32 := Scalar.extui v359
  let c0_i32_197 : BitVec 32 := 0#32
  let v361 : BitVec 1 := Scalar.cmpi .ne v360 c0_i32_197
  v361

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev50 : Nat :=
  let c0_i32_229 : BitVec 32 := 0#32
  let c17_i32_227 : BitVec 32 := 17#32
  let c1_i32_228 : BitVec 32 := 1#32
  let v404 : BitVec 32 := Scalar.muli c17_i32_227 c1_i32_228
  let v405 : BitVec 32 := Scalar.addi c0_i32_229 v404
  v405.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_198 : BitVec 32 := 18#32
  let v362 : BitVec 1 := Scalar.cmpi .ne v2 c18_i32_198
  let v363 : BitVec 32 := Scalar.extui v362
  let c0_i32_199 : BitVec 32 := 0#32
  let v364 : BitVec 1 := Scalar.cmpi .ne v363 c0_i32_199
  v364

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev51 : Nat :=
  let c0_i32_229 : BitVec 32 := 0#32
  let c18_i32_227 : BitVec 32 := 18#32
  let c1_i32_228 : BitVec 32 := 1#32
  let v404 : BitVec 32 := Scalar.muli c18_i32_227 c1_i32_228
  let v405 : BitVec 32 := Scalar.addi c0_i32_229 v404
  v405.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_200 : BitVec 32 := 19#32
  let v365 : BitVec 1 := Scalar.cmpi .ne v2 c19_i32_200
  let v366 : BitVec 32 := Scalar.extui v365
  let c0_i32_201 : BitVec 32 := 0#32
  let v367 : BitVec 1 := Scalar.cmpi .ne v366 c0_i32_201
  v367

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev52 : Nat :=
  let c0_i32_229 : BitVec 32 := 0#32
  let c19_i32_227 : BitVec 32 := 19#32
  let c1_i32_228 : BitVec 32 := 1#32
  let v404 : BitVec 32 := Scalar.muli c19_i32_227 c1_i32_228
  let v405 : BitVec 32 := Scalar.addi c0_i32_229 v404
  v405.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_202 : BitVec 32 := 20#32
  let v368 : BitVec 1 := Scalar.cmpi .ne v2 c20_i32_202
  let v369 : BitVec 32 := Scalar.extui v368
  let c0_i32_203 : BitVec 32 := 0#32
  let v370 : BitVec 1 := Scalar.cmpi .ne v369 c0_i32_203
  v370

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev53 : Nat :=
  let c0_i32_229 : BitVec 32 := 0#32
  let c20_i32_227 : BitVec 32 := 20#32
  let c1_i32_228 : BitVec 32 := 1#32
  let v404 : BitVec 32 := Scalar.muli c20_i32_227 c1_i32_228
  let v405 : BitVec 32 := Scalar.addi c0_i32_229 v404
  v405.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_204 : BitVec 32 := 21#32
  let v371 : BitVec 1 := Scalar.cmpi .ne v2 c21_i32_204
  let v372 : BitVec 32 := Scalar.extui v371
  let c0_i32_205 : BitVec 32 := 0#32
  let v373 : BitVec 1 := Scalar.cmpi .ne v372 c0_i32_205
  v373

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev54 : Nat :=
  let c0_i32_229 : BitVec 32 := 0#32
  let c21_i32_227 : BitVec 32 := 21#32
  let c1_i32_228 : BitVec 32 := 1#32
  let v404 : BitVec 32 := Scalar.muli c21_i32_227 c1_i32_228
  let v405 : BitVec 32 := Scalar.addi c0_i32_229 v404
  v405.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_206 : BitVec 32 := 22#32
  let v374 : BitVec 1 := Scalar.cmpi .ne v2 c22_i32_206
  let v375 : BitVec 32 := Scalar.extui v374
  let c0_i32_207 : BitVec 32 := 0#32
  let v376 : BitVec 1 := Scalar.cmpi .ne v375 c0_i32_207
  v376

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev55 : Nat :=
  let c0_i32_229 : BitVec 32 := 0#32
  let c22_i32_227 : BitVec 32 := 22#32
  let c1_i32_228 : BitVec 32 := 1#32
  let v404 : BitVec 32 := Scalar.muli c22_i32_227 c1_i32_228
  let v405 : BitVec 32 := Scalar.addi c0_i32_229 v404
  v405.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_208 : BitVec 32 := 23#32
  let v377 : BitVec 1 := Scalar.cmpi .ne v2 c23_i32_208
  let v378 : BitVec 32 := Scalar.extui v377
  let c0_i32_209 : BitVec 32 := 0#32
  let v379 : BitVec 1 := Scalar.cmpi .ne v378 c0_i32_209
  v379

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev56 : Nat :=
  let c0_i32_229 : BitVec 32 := 0#32
  let c23_i32_227 : BitVec 32 := 23#32
  let c1_i32_228 : BitVec 32 := 1#32
  let v404 : BitVec 32 := Scalar.muli c23_i32_227 c1_i32_228
  let v405 : BitVec 32 := Scalar.addi c0_i32_229 v404
  v405.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_210 : BitVec 32 := 24#32
  let v380 : BitVec 1 := Scalar.cmpi .ne v2 c24_i32_210
  let v381 : BitVec 32 := Scalar.extui v380
  let c0_i32_211 : BitVec 32 := 0#32
  let v382 : BitVec 1 := Scalar.cmpi .ne v381 c0_i32_211
  v382

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev57 : Nat :=
  let c0_i32_229 : BitVec 32 := 0#32
  let c24_i32_227 : BitVec 32 := 24#32
  let c1_i32_228 : BitVec 32 := 1#32
  let v404 : BitVec 32 := Scalar.muli c24_i32_227 c1_i32_228
  let v405 : BitVec 32 := Scalar.addi c0_i32_229 v404
  v405.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_212 : BitVec 32 := 25#32
  let v383 : BitVec 1 := Scalar.cmpi .ne v2 c25_i32_212
  let v384 : BitVec 32 := Scalar.extui v383
  let c0_i32_213 : BitVec 32 := 0#32
  let v385 : BitVec 1 := Scalar.cmpi .ne v384 c0_i32_213
  v385

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev58 : Nat :=
  let c0_i32_229 : BitVec 32 := 0#32
  let c25_i32_227 : BitVec 32 := 25#32
  let c1_i32_228 : BitVec 32 := 1#32
  let v404 : BitVec 32 := Scalar.muli c25_i32_227 c1_i32_228
  let v405 : BitVec 32 := Scalar.addi c0_i32_229 v404
  v405.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_214 : BitVec 32 := 26#32
  let v386 : BitVec 1 := Scalar.cmpi .ne v2 c26_i32_214
  let v387 : BitVec 32 := Scalar.extui v386
  let c0_i32_215 : BitVec 32 := 0#32
  let v388 : BitVec 1 := Scalar.cmpi .ne v387 c0_i32_215
  v388

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev59 : Nat :=
  let c0_i32_229 : BitVec 32 := 0#32
  let c26_i32_227 : BitVec 32 := 26#32
  let c1_i32_228 : BitVec 32 := 1#32
  let v404 : BitVec 32 := Scalar.muli c26_i32_227 c1_i32_228
  let v405 : BitVec 32 := Scalar.addi c0_i32_229 v404
  v405.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_216 : BitVec 32 := 27#32
  let v389 : BitVec 1 := Scalar.cmpi .ne v2 c27_i32_216
  let v390 : BitVec 32 := Scalar.extui v389
  let c0_i32_217 : BitVec 32 := 0#32
  let v391 : BitVec 1 := Scalar.cmpi .ne v390 c0_i32_217
  v391

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev60 : Nat :=
  let c0_i32_229 : BitVec 32 := 0#32
  let c27_i32_227 : BitVec 32 := 27#32
  let c1_i32_228 : BitVec 32 := 1#32
  let v404 : BitVec 32 := Scalar.muli c27_i32_227 c1_i32_228
  let v405 : BitVec 32 := Scalar.addi c0_i32_229 v404
  v405.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_218 : BitVec 32 := 28#32
  let v392 : BitVec 1 := Scalar.cmpi .ne v2 c28_i32_218
  let v393 : BitVec 32 := Scalar.extui v392
  let c0_i32_219 : BitVec 32 := 0#32
  let v394 : BitVec 1 := Scalar.cmpi .ne v393 c0_i32_219
  v394

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev61 : Nat :=
  let c0_i32_229 : BitVec 32 := 0#32
  let c28_i32_227 : BitVec 32 := 28#32
  let c1_i32_228 : BitVec 32 := 1#32
  let v404 : BitVec 32 := Scalar.muli c28_i32_227 c1_i32_228
  let v405 : BitVec 32 := Scalar.addi c0_i32_229 v404
  v405.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_220 : BitVec 32 := 29#32
  let v395 : BitVec 1 := Scalar.cmpi .ne v2 c29_i32_220
  let v396 : BitVec 32 := Scalar.extui v395
  let c0_i32_221 : BitVec 32 := 0#32
  let v397 : BitVec 1 := Scalar.cmpi .ne v396 c0_i32_221
  v397

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev62 : Nat :=
  let c0_i32_229 : BitVec 32 := 0#32
  let c29_i32_227 : BitVec 32 := 29#32
  let c1_i32_228 : BitVec 32 := 1#32
  let v404 : BitVec 32 := Scalar.muli c29_i32_227 c1_i32_228
  let v405 : BitVec 32 := Scalar.addi c0_i32_229 v404
  v405.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_222 : BitVec 32 := 30#32
  let v398 : BitVec 1 := Scalar.cmpi .ne v2 c30_i32_222
  let v399 : BitVec 32 := Scalar.extui v398
  let c0_i32_223 : BitVec 32 := 0#32
  let v400 : BitVec 1 := Scalar.cmpi .ne v399 c0_i32_223
  v400

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev63 : Nat :=
  let c0_i32_229 : BitVec 32 := 0#32
  let c30_i32_227 : BitVec 32 := 30#32
  let c1_i32_228 : BitVec 32 := 1#32
  let v404 : BitVec 32 := Scalar.muli c30_i32_227 c1_i32_228
  let v405 : BitVec 32 := Scalar.addi c0_i32_229 v404
  v405.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_224 : BitVec 32 := 31#32
  let v401 : BitVec 1 := Scalar.cmpi .ne v2 c31_i32_224
  let v402 : BitVec 32 := Scalar.extui v401
  let c0_i32_225 : BitVec 32 := 0#32
  let v403 : BitVec 1 := Scalar.cmpi .ne v402 c0_i32_225
  v403

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev64 : Nat :=
  let c0_i32_229 : BitVec 32 := 0#32
  let c31_i32_227 : BitVec 32 := 31#32
  let c1_i32_228 : BitVec 32 := 1#32
  let v404 : BitVec 32 := Scalar.muli c31_i32_227 c1_i32_228
  let v405 : BitVec 32 := Scalar.addi c0_i32_229 v404
  v405.toNat
def k0_off67 (i : grid0.Coords) (c0_i32_68 : BitVec 32) : Fin 3 → Nat :=
  let arg0 : BitVec 32 := BitVec.ofNat 32 (i 0).val
  let c4_i32_67 : BitVec 32 := 4#32
  let v167 : BitVec 32 := Scalar.muli arg0 c4_i32_67
  let v168 : BitVec 32 := Scalar.addi v167 c0_i32_68
  let v169 : Index := Scalar.indexCast v168
  let c0 : Index := 0#32
  let c0_69 : Index := 0#32
  ![v169.toNat, 0, 0]
def k0_cond100 (i : grid0.Coords) : BitVec 1 :=
  let arg0 : BitVec 32 := BitVec.ofNat 32 (i 0).val
  let c7_i32_88 : BitVec 32 := 7#32
  let v197 : BitVec 1 := Scalar.cmpi .eq arg0 c7_i32_88
  let v198 : BitVec 32 := Scalar.extui v197
  let c0_i32_89 : BitVec 32 := 0#32
  let v199 : BitVec 1 := Scalar.cmpi .ne v198 c0_i32_89
  v199

def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_90 : BitVec 32 := 0#32
  let v200 : BitVec 1 := Scalar.cmpi .ne v2 c0_i32_90
  let v201 : BitVec 32 := Scalar.extui v200
  let c0_i32_91 : BitVec 32 := 0#32
  let v202 : BitVec 1 := Scalar.cmpi .ne v201 c0_i32_91
  v202

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_233 : BitVec 32 := 0#32
  let c0_i32_234 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_92 : BitVec 32 := 1#32
  let v203 : BitVec 1 := Scalar.cmpi .ne v2 c1_i32_92
  let v204 : BitVec 32 := Scalar.extui v203
  let c0_i32_93 : BitVec 32 := 0#32
  let v205 : BitVec 1 := Scalar.cmpi .ne v204 c0_i32_93
  v205

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_94 : BitVec 32 := 2#32
  let v206 : BitVec 1 := Scalar.cmpi .ne v2 c2_i32_94
  let v207 : BitVec 32 := Scalar.extui v206
  let c0_i32_95 : BitVec 32 := 0#32
  let v208 : BitVec 1 := Scalar.cmpi .ne v207 c0_i32_95
  v208

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_96 : BitVec 32 := 3#32
  let v209 : BitVec 1 := Scalar.cmpi .ne v2 c3_i32_96
  let v210 : BitVec 32 := Scalar.extui v209
  let c0_i32_97 : BitVec 32 := 0#32
  let v211 : BitVec 1 := Scalar.cmpi .ne v210 c0_i32_97
  v211

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_98 : BitVec 32 := 4#32
  let v212 : BitVec 1 := Scalar.cmpi .ne v2 c4_i32_98
  let v213 : BitVec 32 := Scalar.extui v212
  let c0_i32_99 : BitVec 32 := 0#32
  let v214 : BitVec 1 := Scalar.cmpi .ne v213 c0_i32_99
  v214

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_100 : BitVec 32 := 5#32
  let v215 : BitVec 1 := Scalar.cmpi .ne v2 c5_i32_100
  let v216 : BitVec 32 := Scalar.extui v215
  let c0_i32_101 : BitVec 32 := 0#32
  let v217 : BitVec 1 := Scalar.cmpi .ne v216 c0_i32_101
  v217

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_102 : BitVec 32 := 6#32
  let v218 : BitVec 1 := Scalar.cmpi .ne v2 c6_i32_102
  let v219 : BitVec 32 := Scalar.extui v218
  let c0_i32_103 : BitVec 32 := 0#32
  let v220 : BitVec 1 := Scalar.cmpi .ne v219 c0_i32_103
  v220

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_104 : BitVec 32 := 7#32
  let v221 : BitVec 1 := Scalar.cmpi .ne v2 c7_i32_104
  let v222 : BitVec 32 := Scalar.extui v221
  let c0_i32_105 : BitVec 32 := 0#32
  let v223 : BitVec 1 := Scalar.cmpi .ne v222 c0_i32_105
  v223

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_106 : BitVec 32 := 8#32
  let v224 : BitVec 1 := Scalar.cmpi .ne v2 c8_i32_106
  let v225 : BitVec 32 := Scalar.extui v224
  let c0_i32_107 : BitVec 32 := 0#32
  let v226 : BitVec 1 := Scalar.cmpi .ne v225 c0_i32_107
  v226

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_108 : BitVec 32 := 9#32
  let v227 : BitVec 1 := Scalar.cmpi .ne v2 c9_i32_108
  let v228 : BitVec 32 := Scalar.extui v227
  let c0_i32_109 : BitVec 32 := 0#32
  let v229 : BitVec 1 := Scalar.cmpi .ne v228 c0_i32_109
  v229

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_110 : BitVec 32 := 10#32
  let v230 : BitVec 1 := Scalar.cmpi .ne v2 c10_i32_110
  let v231 : BitVec 32 := Scalar.extui v230
  let c0_i32_111 : BitVec 32 := 0#32
  let v232 : BitVec 1 := Scalar.cmpi .ne v231 c0_i32_111
  v232

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_112 : BitVec 32 := 11#32
  let v233 : BitVec 1 := Scalar.cmpi .ne v2 c11_i32_112
  let v234 : BitVec 32 := Scalar.extui v233
  let c0_i32_113 : BitVec 32 := 0#32
  let v235 : BitVec 1 := Scalar.cmpi .ne v234 c0_i32_113
  v235

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_114 : BitVec 32 := 12#32
  let v236 : BitVec 1 := Scalar.cmpi .ne v2 c12_i32_114
  let v237 : BitVec 32 := Scalar.extui v236
  let c0_i32_115 : BitVec 32 := 0#32
  let v238 : BitVec 1 := Scalar.cmpi .ne v237 c0_i32_115
  v238

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_116 : BitVec 32 := 13#32
  let v239 : BitVec 1 := Scalar.cmpi .ne v2 c13_i32_116
  let v240 : BitVec 32 := Scalar.extui v239
  let c0_i32_117 : BitVec 32 := 0#32
  let v241 : BitVec 1 := Scalar.cmpi .ne v240 c0_i32_117
  v241

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_118 : BitVec 32 := 14#32
  let v242 : BitVec 1 := Scalar.cmpi .ne v2 c14_i32_118
  let v243 : BitVec 32 := Scalar.extui v242
  let c0_i32_119 : BitVec 32 := 0#32
  let v244 : BitVec 1 := Scalar.cmpi .ne v243 c0_i32_119
  v244

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_120 : BitVec 32 := 15#32
  let v245 : BitVec 1 := Scalar.cmpi .ne v2 c15_i32_120
  let v246 : BitVec 32 := Scalar.extui v245
  let c0_i32_121 : BitVec 32 := 0#32
  let v247 : BitVec 1 := Scalar.cmpi .ne v246 c0_i32_121
  v247

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_122 : BitVec 32 := 16#32
  let v248 : BitVec 1 := Scalar.cmpi .ne v2 c16_i32_122
  let v249 : BitVec 32 := Scalar.extui v248
  let c0_i32_123 : BitVec 32 := 0#32
  let v250 : BitVec 1 := Scalar.cmpi .ne v249 c0_i32_123
  v250

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_124 : BitVec 32 := 17#32
  let v251 : BitVec 1 := Scalar.cmpi .ne v2 c17_i32_124
  let v252 : BitVec 32 := Scalar.extui v251
  let c0_i32_125 : BitVec 32 := 0#32
  let v253 : BitVec 1 := Scalar.cmpi .ne v252 c0_i32_125
  v253

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_126 : BitVec 32 := 18#32
  let v254 : BitVec 1 := Scalar.cmpi .ne v2 c18_i32_126
  let v255 : BitVec 32 := Scalar.extui v254
  let c0_i32_127 : BitVec 32 := 0#32
  let v256 : BitVec 1 := Scalar.cmpi .ne v255 c0_i32_127
  v256

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_128 : BitVec 32 := 19#32
  let v257 : BitVec 1 := Scalar.cmpi .ne v2 c19_i32_128
  let v258 : BitVec 32 := Scalar.extui v257
  let c0_i32_129 : BitVec 32 := 0#32
  let v259 : BitVec 1 := Scalar.cmpi .ne v258 c0_i32_129
  v259

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_130 : BitVec 32 := 20#32
  let v260 : BitVec 1 := Scalar.cmpi .ne v2 c20_i32_130
  let v261 : BitVec 32 := Scalar.extui v260
  let c0_i32_131 : BitVec 32 := 0#32
  let v262 : BitVec 1 := Scalar.cmpi .ne v261 c0_i32_131
  v262

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_132 : BitVec 32 := 21#32
  let v263 : BitVec 1 := Scalar.cmpi .ne v2 c21_i32_132
  let v264 : BitVec 32 := Scalar.extui v263
  let c0_i32_133 : BitVec 32 := 0#32
  let v265 : BitVec 1 := Scalar.cmpi .ne v264 c0_i32_133
  v265

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_134 : BitVec 32 := 22#32
  let v266 : BitVec 1 := Scalar.cmpi .ne v2 c22_i32_134
  let v267 : BitVec 32 := Scalar.extui v266
  let c0_i32_135 : BitVec 32 := 0#32
  let v268 : BitVec 1 := Scalar.cmpi .ne v267 c0_i32_135
  v268

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_136 : BitVec 32 := 23#32
  let v269 : BitVec 1 := Scalar.cmpi .ne v2 c23_i32_136
  let v270 : BitVec 32 := Scalar.extui v269
  let c0_i32_137 : BitVec 32 := 0#32
  let v271 : BitVec 1 := Scalar.cmpi .ne v270 c0_i32_137
  v271

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_138 : BitVec 32 := 24#32
  let v272 : BitVec 1 := Scalar.cmpi .ne v2 c24_i32_138
  let v273 : BitVec 32 := Scalar.extui v272
  let c0_i32_139 : BitVec 32 := 0#32
  let v274 : BitVec 1 := Scalar.cmpi .ne v273 c0_i32_139
  v274

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_140 : BitVec 32 := 25#32
  let v275 : BitVec 1 := Scalar.cmpi .ne v2 c25_i32_140
  let v276 : BitVec 32 := Scalar.extui v275
  let c0_i32_141 : BitVec 32 := 0#32
  let v277 : BitVec 1 := Scalar.cmpi .ne v276 c0_i32_141
  v277

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_142 : BitVec 32 := 26#32
  let v278 : BitVec 1 := Scalar.cmpi .ne v2 c26_i32_142
  let v279 : BitVec 32 := Scalar.extui v278
  let c0_i32_143 : BitVec 32 := 0#32
  let v280 : BitVec 1 := Scalar.cmpi .ne v279 c0_i32_143
  v280

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_144 : BitVec 32 := 27#32
  let v281 : BitVec 1 := Scalar.cmpi .ne v2 c27_i32_144
  let v282 : BitVec 32 := Scalar.extui v281
  let c0_i32_145 : BitVec 32 := 0#32
  let v283 : BitVec 1 := Scalar.cmpi .ne v282 c0_i32_145
  v283

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_146 : BitVec 32 := 28#32
  let v284 : BitVec 1 := Scalar.cmpi .ne v2 c28_i32_146
  let v285 : BitVec 32 := Scalar.extui v284
  let c0_i32_147 : BitVec 32 := 0#32
  let v286 : BitVec 1 := Scalar.cmpi .ne v285 c0_i32_147
  v286

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_148 : BitVec 32 := 29#32
  let v287 : BitVec 1 := Scalar.cmpi .ne v2 c29_i32_148
  let v288 : BitVec 32 := Scalar.extui v287
  let c0_i32_149 : BitVec 32 := 0#32
  let v289 : BitVec 1 := Scalar.cmpi .ne v288 c0_i32_149
  v289

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_150 : BitVec 32 := 30#32
  let v290 : BitVec 1 := Scalar.cmpi .ne v2 c30_i32_150
  let v291 : BitVec 32 := Scalar.extui v290
  let c0_i32_151 : BitVec 32 := 0#32
  let v292 : BitVec 1 := Scalar.cmpi .ne v291 c0_i32_151
  v292

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_152 : BitVec 32 := 31#32
  let v293 : BitVec 1 := Scalar.cmpi .ne v2 c31_i32_152
  let v294 : BitVec 32 := Scalar.extui v293
  let c0_i32_153 : BitVec 32 := 0#32
  let v295 : BitVec 1 := Scalar.cmpi .ne v294 c0_i32_153
  v295

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_232 : BitVec 32 := 0#32
  let c0_i32_233 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_154 : BitVec 32 := 0#32
  let v296 : BitVec 1 := Scalar.cmpi .ne v2 c0_i32_154
  let v297 : BitVec 32 := Scalar.extui v296
  let c0_i32_155 : BitVec 32 := 0#32
  let v298 : BitVec 1 := Scalar.cmpi .ne v297 c0_i32_155
  v298

def k0_dev65 : Nat :=
  let c0_i32_231 : BitVec 32 := 0#32
  let c0_i32_229 : BitVec 32 := 0#32
  let c1_i32_230 : BitVec 32 := 1#32
  let v407 : BitVec 32 := Scalar.muli c0_i32_229 c1_i32_230
  let v408 : BitVec 32 := Scalar.addi c0_i32_231 v407
  v408.toNat
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_156 : BitVec 32 := 1#32
  let v299 : BitVec 1 := Scalar.cmpi .ne v2 c1_i32_156
  let v300 : BitVec 32 := Scalar.extui v299
  let c0_i32_157 : BitVec 32 := 0#32
  let v301 : BitVec 1 := Scalar.cmpi .ne v300 c0_i32_157
  v301

def k0_dev66 : Nat :=
  let c0_i32_231 : BitVec 32 := 0#32
  let c1_i32_229 : BitVec 32 := 1#32
  let c1_i32_230 : BitVec 32 := 1#32
  let v407 : BitVec 32 := Scalar.muli c1_i32_229 c1_i32_230
  let v408 : BitVec 32 := Scalar.addi c0_i32_231 v407
  v408.toNat
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_158 : BitVec 32 := 2#32
  let v302 : BitVec 1 := Scalar.cmpi .ne v2 c2_i32_158
  let v303 : BitVec 32 := Scalar.extui v302
  let c0_i32_159 : BitVec 32 := 0#32
  let v304 : BitVec 1 := Scalar.cmpi .ne v303 c0_i32_159
  v304

def k0_dev67 : Nat :=
  let c0_i32_231 : BitVec 32 := 0#32
  let c2_i32_229 : BitVec 32 := 2#32
  let c1_i32_230 : BitVec 32 := 1#32
  let v407 : BitVec 32 := Scalar.muli c2_i32_229 c1_i32_230
  let v408 : BitVec 32 := Scalar.addi c0_i32_231 v407
  v408.toNat
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_160 : BitVec 32 := 3#32
  let v305 : BitVec 1 := Scalar.cmpi .ne v2 c3_i32_160
  let v306 : BitVec 32 := Scalar.extui v305
  let c0_i32_161 : BitVec 32 := 0#32
  let v307 : BitVec 1 := Scalar.cmpi .ne v306 c0_i32_161
  v307

def k0_dev68 : Nat :=
  let c0_i32_231 : BitVec 32 := 0#32
  let c3_i32_229 : BitVec 32 := 3#32
  let c1_i32_230 : BitVec 32 := 1#32
  let v407 : BitVec 32 := Scalar.muli c3_i32_229 c1_i32_230
  let v408 : BitVec 32 := Scalar.addi c0_i32_231 v407
  v408.toNat
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_162 : BitVec 32 := 4#32
  let v308 : BitVec 1 := Scalar.cmpi .ne v2 c4_i32_162
  let v309 : BitVec 32 := Scalar.extui v308
  let c0_i32_163 : BitVec 32 := 0#32
  let v310 : BitVec 1 := Scalar.cmpi .ne v309 c0_i32_163
  v310

def k0_dev69 : Nat :=
  let c0_i32_231 : BitVec 32 := 0#32
  let c4_i32_229 : BitVec 32 := 4#32
  let c1_i32_230 : BitVec 32 := 1#32
  let v407 : BitVec 32 := Scalar.muli c4_i32_229 c1_i32_230
  let v408 : BitVec 32 := Scalar.addi c0_i32_231 v407
  v408.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_164 : BitVec 32 := 5#32
  let v311 : BitVec 1 := Scalar.cmpi .ne v2 c5_i32_164
  let v312 : BitVec 32 := Scalar.extui v311
  let c0_i32_165 : BitVec 32 := 0#32
  let v313 : BitVec 1 := Scalar.cmpi .ne v312 c0_i32_165
  v313

def k0_dev70 : Nat :=
  let c0_i32_231 : BitVec 32 := 0#32
  let c5_i32_229 : BitVec 32 := 5#32
  let c1_i32_230 : BitVec 32 := 1#32
  let v407 : BitVec 32 := Scalar.muli c5_i32_229 c1_i32_230
  let v408 : BitVec 32 := Scalar.addi c0_i32_231 v407
  v408.toNat
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_166 : BitVec 32 := 6#32
  let v314 : BitVec 1 := Scalar.cmpi .ne v2 c6_i32_166
  let v315 : BitVec 32 := Scalar.extui v314
  let c0_i32_167 : BitVec 32 := 0#32
  let v316 : BitVec 1 := Scalar.cmpi .ne v315 c0_i32_167
  v316

def k0_dev71 : Nat :=
  let c0_i32_231 : BitVec 32 := 0#32
  let c6_i32_229 : BitVec 32 := 6#32
  let c1_i32_230 : BitVec 32 := 1#32
  let v407 : BitVec 32 := Scalar.muli c6_i32_229 c1_i32_230
  let v408 : BitVec 32 := Scalar.addi c0_i32_231 v407
  v408.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_168 : BitVec 32 := 7#32
  let v317 : BitVec 1 := Scalar.cmpi .ne v2 c7_i32_168
  let v318 : BitVec 32 := Scalar.extui v317
  let c0_i32_169 : BitVec 32 := 0#32
  let v319 : BitVec 1 := Scalar.cmpi .ne v318 c0_i32_169
  v319

def k0_dev72 : Nat :=
  let c0_i32_231 : BitVec 32 := 0#32
  let c7_i32_229 : BitVec 32 := 7#32
  let c1_i32_230 : BitVec 32 := 1#32
  let v407 : BitVec 32 := Scalar.muli c7_i32_229 c1_i32_230
  let v408 : BitVec 32 := Scalar.addi c0_i32_231 v407
  v408.toNat
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_170 : BitVec 32 := 8#32
  let v320 : BitVec 1 := Scalar.cmpi .ne v2 c8_i32_170
  let v321 : BitVec 32 := Scalar.extui v320
  let c0_i32_171 : BitVec 32 := 0#32
  let v322 : BitVec 1 := Scalar.cmpi .ne v321 c0_i32_171
  v322

def k0_dev73 : Nat :=
  let c0_i32_231 : BitVec 32 := 0#32
  let c8_i32_229 : BitVec 32 := 8#32
  let c1_i32_230 : BitVec 32 := 1#32
  let v407 : BitVec 32 := Scalar.muli c8_i32_229 c1_i32_230
  let v408 : BitVec 32 := Scalar.addi c0_i32_231 v407
  v408.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_172 : BitVec 32 := 9#32
  let v323 : BitVec 1 := Scalar.cmpi .ne v2 c9_i32_172
  let v324 : BitVec 32 := Scalar.extui v323
  let c0_i32_173 : BitVec 32 := 0#32
  let v325 : BitVec 1 := Scalar.cmpi .ne v324 c0_i32_173
  v325

def k0_dev74 : Nat :=
  let c0_i32_231 : BitVec 32 := 0#32
  let c9_i32_229 : BitVec 32 := 9#32
  let c1_i32_230 : BitVec 32 := 1#32
  let v407 : BitVec 32 := Scalar.muli c9_i32_229 c1_i32_230
  let v408 : BitVec 32 := Scalar.addi c0_i32_231 v407
  v408.toNat
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_174 : BitVec 32 := 10#32
  let v326 : BitVec 1 := Scalar.cmpi .ne v2 c10_i32_174
  let v327 : BitVec 32 := Scalar.extui v326
  let c0_i32_175 : BitVec 32 := 0#32
  let v328 : BitVec 1 := Scalar.cmpi .ne v327 c0_i32_175
  v328

def k0_dev75 : Nat :=
  let c0_i32_231 : BitVec 32 := 0#32
  let c10_i32_229 : BitVec 32 := 10#32
  let c1_i32_230 : BitVec 32 := 1#32
  let v407 : BitVec 32 := Scalar.muli c10_i32_229 c1_i32_230
  let v408 : BitVec 32 := Scalar.addi c0_i32_231 v407
  v408.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_176 : BitVec 32 := 11#32
  let v329 : BitVec 1 := Scalar.cmpi .ne v2 c11_i32_176
  let v330 : BitVec 32 := Scalar.extui v329
  let c0_i32_177 : BitVec 32 := 0#32
  let v331 : BitVec 1 := Scalar.cmpi .ne v330 c0_i32_177
  v331

def k0_dev76 : Nat :=
  let c0_i32_231 : BitVec 32 := 0#32
  let c11_i32_229 : BitVec 32 := 11#32
  let c1_i32_230 : BitVec 32 := 1#32
  let v407 : BitVec 32 := Scalar.muli c11_i32_229 c1_i32_230
  let v408 : BitVec 32 := Scalar.addi c0_i32_231 v407
  v408.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_178 : BitVec 32 := 12#32
  let v332 : BitVec 1 := Scalar.cmpi .ne v2 c12_i32_178
  let v333 : BitVec 32 := Scalar.extui v332
  let c0_i32_179 : BitVec 32 := 0#32
  let v334 : BitVec 1 := Scalar.cmpi .ne v333 c0_i32_179
  v334

def k0_dev77 : Nat :=
  let c0_i32_231 : BitVec 32 := 0#32
  let c12_i32_229 : BitVec 32 := 12#32
  let c1_i32_230 : BitVec 32 := 1#32
  let v407 : BitVec 32 := Scalar.muli c12_i32_229 c1_i32_230
  let v408 : BitVec 32 := Scalar.addi c0_i32_231 v407
  v408.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_180 : BitVec 32 := 13#32
  let v335 : BitVec 1 := Scalar.cmpi .ne v2 c13_i32_180
  let v336 : BitVec 32 := Scalar.extui v335
  let c0_i32_181 : BitVec 32 := 0#32
  let v337 : BitVec 1 := Scalar.cmpi .ne v336 c0_i32_181
  v337

def k0_dev78 : Nat :=
  let c0_i32_231 : BitVec 32 := 0#32
  let c13_i32_229 : BitVec 32 := 13#32
  let c1_i32_230 : BitVec 32 := 1#32
  let v407 : BitVec 32 := Scalar.muli c13_i32_229 c1_i32_230
  let v408 : BitVec 32 := Scalar.addi c0_i32_231 v407
  v408.toNat
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_182 : BitVec 32 := 14#32
  let v338 : BitVec 1 := Scalar.cmpi .ne v2 c14_i32_182
  let v339 : BitVec 32 := Scalar.extui v338
  let c0_i32_183 : BitVec 32 := 0#32
  let v340 : BitVec 1 := Scalar.cmpi .ne v339 c0_i32_183
  v340

def k0_dev79 : Nat :=
  let c0_i32_231 : BitVec 32 := 0#32
  let c14_i32_229 : BitVec 32 := 14#32
  let c1_i32_230 : BitVec 32 := 1#32
  let v407 : BitVec 32 := Scalar.muli c14_i32_229 c1_i32_230
  let v408 : BitVec 32 := Scalar.addi c0_i32_231 v407
  v408.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_184 : BitVec 32 := 15#32
  let v341 : BitVec 1 := Scalar.cmpi .ne v2 c15_i32_184
  let v342 : BitVec 32 := Scalar.extui v341
  let c0_i32_185 : BitVec 32 := 0#32
  let v343 : BitVec 1 := Scalar.cmpi .ne v342 c0_i32_185
  v343

def k0_dev80 : Nat :=
  let c0_i32_231 : BitVec 32 := 0#32
  let c15_i32_229 : BitVec 32 := 15#32
  let c1_i32_230 : BitVec 32 := 1#32
  let v407 : BitVec 32 := Scalar.muli c15_i32_229 c1_i32_230
  let v408 : BitVec 32 := Scalar.addi c0_i32_231 v407
  v408.toNat
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_186 : BitVec 32 := 16#32
  let v344 : BitVec 1 := Scalar.cmpi .ne v2 c16_i32_186
  let v345 : BitVec 32 := Scalar.extui v344
  let c0_i32_187 : BitVec 32 := 0#32
  let v346 : BitVec 1 := Scalar.cmpi .ne v345 c0_i32_187
  v346

def k0_dev81 : Nat :=
  let c0_i32_231 : BitVec 32 := 0#32
  let c16_i32_229 : BitVec 32 := 16#32
  let c1_i32_230 : BitVec 32 := 1#32
  let v407 : BitVec 32 := Scalar.muli c16_i32_229 c1_i32_230
  let v408 : BitVec 32 := Scalar.addi c0_i32_231 v407
  v408.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_188 : BitVec 32 := 17#32
  let v347 : BitVec 1 := Scalar.cmpi .ne v2 c17_i32_188
  let v348 : BitVec 32 := Scalar.extui v347
  let c0_i32_189 : BitVec 32 := 0#32
  let v349 : BitVec 1 := Scalar.cmpi .ne v348 c0_i32_189
  v349

def k0_dev82 : Nat :=
  let c0_i32_231 : BitVec 32 := 0#32
  let c17_i32_229 : BitVec 32 := 17#32
  let c1_i32_230 : BitVec 32 := 1#32
  let v407 : BitVec 32 := Scalar.muli c17_i32_229 c1_i32_230
  let v408 : BitVec 32 := Scalar.addi c0_i32_231 v407
  v408.toNat
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_190 : BitVec 32 := 18#32
  let v350 : BitVec 1 := Scalar.cmpi .ne v2 c18_i32_190
  let v351 : BitVec 32 := Scalar.extui v350
  let c0_i32_191 : BitVec 32 := 0#32
  let v352 : BitVec 1 := Scalar.cmpi .ne v351 c0_i32_191
  v352

def k0_dev83 : Nat :=
  let c0_i32_231 : BitVec 32 := 0#32
  let c18_i32_229 : BitVec 32 := 18#32
  let c1_i32_230 : BitVec 32 := 1#32
  let v407 : BitVec 32 := Scalar.muli c18_i32_229 c1_i32_230
  let v408 : BitVec 32 := Scalar.addi c0_i32_231 v407
  v408.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_192 : BitVec 32 := 19#32
  let v353 : BitVec 1 := Scalar.cmpi .ne v2 c19_i32_192
  let v354 : BitVec 32 := Scalar.extui v353
  let c0_i32_193 : BitVec 32 := 0#32
  let v355 : BitVec 1 := Scalar.cmpi .ne v354 c0_i32_193
  v355

def k0_dev84 : Nat :=
  let c0_i32_231 : BitVec 32 := 0#32
  let c19_i32_229 : BitVec 32 := 19#32
  let c1_i32_230 : BitVec 32 := 1#32
  let v407 : BitVec 32 := Scalar.muli c19_i32_229 c1_i32_230
  let v408 : BitVec 32 := Scalar.addi c0_i32_231 v407
  v408.toNat
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_194 : BitVec 32 := 20#32
  let v356 : BitVec 1 := Scalar.cmpi .ne v2 c20_i32_194
  let v357 : BitVec 32 := Scalar.extui v356
  let c0_i32_195 : BitVec 32 := 0#32
  let v358 : BitVec 1 := Scalar.cmpi .ne v357 c0_i32_195
  v358

def k0_dev85 : Nat :=
  let c0_i32_231 : BitVec 32 := 0#32
  let c20_i32_229 : BitVec 32 := 20#32
  let c1_i32_230 : BitVec 32 := 1#32
  let v407 : BitVec 32 := Scalar.muli c20_i32_229 c1_i32_230
  let v408 : BitVec 32 := Scalar.addi c0_i32_231 v407
  v408.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_196 : BitVec 32 := 21#32
  let v359 : BitVec 1 := Scalar.cmpi .ne v2 c21_i32_196
  let v360 : BitVec 32 := Scalar.extui v359
  let c0_i32_197 : BitVec 32 := 0#32
  let v361 : BitVec 1 := Scalar.cmpi .ne v360 c0_i32_197
  v361

def k0_dev86 : Nat :=
  let c0_i32_231 : BitVec 32 := 0#32
  let c21_i32_229 : BitVec 32 := 21#32
  let c1_i32_230 : BitVec 32 := 1#32
  let v407 : BitVec 32 := Scalar.muli c21_i32_229 c1_i32_230
  let v408 : BitVec 32 := Scalar.addi c0_i32_231 v407
  v408.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_198 : BitVec 32 := 22#32
  let v362 : BitVec 1 := Scalar.cmpi .ne v2 c22_i32_198
  let v363 : BitVec 32 := Scalar.extui v362
  let c0_i32_199 : BitVec 32 := 0#32
  let v364 : BitVec 1 := Scalar.cmpi .ne v363 c0_i32_199
  v364

def k0_dev87 : Nat :=
  let c0_i32_231 : BitVec 32 := 0#32
  let c22_i32_229 : BitVec 32 := 22#32
  let c1_i32_230 : BitVec 32 := 1#32
  let v407 : BitVec 32 := Scalar.muli c22_i32_229 c1_i32_230
  let v408 : BitVec 32 := Scalar.addi c0_i32_231 v407
  v408.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_200 : BitVec 32 := 23#32
  let v365 : BitVec 1 := Scalar.cmpi .ne v2 c23_i32_200
  let v366 : BitVec 32 := Scalar.extui v365
  let c0_i32_201 : BitVec 32 := 0#32
  let v367 : BitVec 1 := Scalar.cmpi .ne v366 c0_i32_201
  v367

def k0_dev88 : Nat :=
  let c0_i32_231 : BitVec 32 := 0#32
  let c23_i32_229 : BitVec 32 := 23#32
  let c1_i32_230 : BitVec 32 := 1#32
  let v407 : BitVec 32 := Scalar.muli c23_i32_229 c1_i32_230
  let v408 : BitVec 32 := Scalar.addi c0_i32_231 v407
  v408.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_202 : BitVec 32 := 24#32
  let v368 : BitVec 1 := Scalar.cmpi .ne v2 c24_i32_202
  let v369 : BitVec 32 := Scalar.extui v368
  let c0_i32_203 : BitVec 32 := 0#32
  let v370 : BitVec 1 := Scalar.cmpi .ne v369 c0_i32_203
  v370

def k0_dev89 : Nat :=
  let c0_i32_231 : BitVec 32 := 0#32
  let c24_i32_229 : BitVec 32 := 24#32
  let c1_i32_230 : BitVec 32 := 1#32
  let v407 : BitVec 32 := Scalar.muli c24_i32_229 c1_i32_230
  let v408 : BitVec 32 := Scalar.addi c0_i32_231 v407
  v408.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_204 : BitVec 32 := 25#32
  let v371 : BitVec 1 := Scalar.cmpi .ne v2 c25_i32_204
  let v372 : BitVec 32 := Scalar.extui v371
  let c0_i32_205 : BitVec 32 := 0#32
  let v373 : BitVec 1 := Scalar.cmpi .ne v372 c0_i32_205
  v373

def k0_dev90 : Nat :=
  let c0_i32_231 : BitVec 32 := 0#32
  let c25_i32_229 : BitVec 32 := 25#32
  let c1_i32_230 : BitVec 32 := 1#32
  let v407 : BitVec 32 := Scalar.muli c25_i32_229 c1_i32_230
  let v408 : BitVec 32 := Scalar.addi c0_i32_231 v407
  v408.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_206 : BitVec 32 := 26#32
  let v374 : BitVec 1 := Scalar.cmpi .ne v2 c26_i32_206
  let v375 : BitVec 32 := Scalar.extui v374
  let c0_i32_207 : BitVec 32 := 0#32
  let v376 : BitVec 1 := Scalar.cmpi .ne v375 c0_i32_207
  v376

def k0_dev91 : Nat :=
  let c0_i32_231 : BitVec 32 := 0#32
  let c26_i32_229 : BitVec 32 := 26#32
  let c1_i32_230 : BitVec 32 := 1#32
  let v407 : BitVec 32 := Scalar.muli c26_i32_229 c1_i32_230
  let v408 : BitVec 32 := Scalar.addi c0_i32_231 v407
  v408.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_208 : BitVec 32 := 27#32
  let v377 : BitVec 1 := Scalar.cmpi .ne v2 c27_i32_208
  let v378 : BitVec 32 := Scalar.extui v377
  let c0_i32_209 : BitVec 32 := 0#32
  let v379 : BitVec 1 := Scalar.cmpi .ne v378 c0_i32_209
  v379

def k0_dev92 : Nat :=
  let c0_i32_231 : BitVec 32 := 0#32
  let c27_i32_229 : BitVec 32 := 27#32
  let c1_i32_230 : BitVec 32 := 1#32
  let v407 : BitVec 32 := Scalar.muli c27_i32_229 c1_i32_230
  let v408 : BitVec 32 := Scalar.addi c0_i32_231 v407
  v408.toNat
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_210 : BitVec 32 := 28#32
  let v380 : BitVec 1 := Scalar.cmpi .ne v2 c28_i32_210
  let v381 : BitVec 32 := Scalar.extui v380
  let c0_i32_211 : BitVec 32 := 0#32
  let v382 : BitVec 1 := Scalar.cmpi .ne v381 c0_i32_211
  v382

def k0_dev93 : Nat :=
  let c0_i32_231 : BitVec 32 := 0#32
  let c28_i32_229 : BitVec 32 := 28#32
  let c1_i32_230 : BitVec 32 := 1#32
  let v407 : BitVec 32 := Scalar.muli c28_i32_229 c1_i32_230
  let v408 : BitVec 32 := Scalar.addi c0_i32_231 v407
  v408.toNat
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_212 : BitVec 32 := 29#32
  let v383 : BitVec 1 := Scalar.cmpi .ne v2 c29_i32_212
  let v384 : BitVec 32 := Scalar.extui v383
  let c0_i32_213 : BitVec 32 := 0#32
  let v385 : BitVec 1 := Scalar.cmpi .ne v384 c0_i32_213
  v385

def k0_dev94 : Nat :=
  let c0_i32_231 : BitVec 32 := 0#32
  let c29_i32_229 : BitVec 32 := 29#32
  let c1_i32_230 : BitVec 32 := 1#32
  let v407 : BitVec 32 := Scalar.muli c29_i32_229 c1_i32_230
  let v408 : BitVec 32 := Scalar.addi c0_i32_231 v407
  v408.toNat
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_214 : BitVec 32 := 30#32
  let v386 : BitVec 1 := Scalar.cmpi .ne v2 c30_i32_214
  let v387 : BitVec 32 := Scalar.extui v386
  let c0_i32_215 : BitVec 32 := 0#32
  let v388 : BitVec 1 := Scalar.cmpi .ne v387 c0_i32_215
  v388

def k0_dev95 : Nat :=
  let c0_i32_231 : BitVec 32 := 0#32
  let c30_i32_229 : BitVec 32 := 30#32
  let c1_i32_230 : BitVec 32 := 1#32
  let v407 : BitVec 32 := Scalar.muli c30_i32_229 c1_i32_230
  let v408 : BitVec 32 := Scalar.addi c0_i32_231 v407
  v408.toNat
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_216 : BitVec 32 := 31#32
  let v389 : BitVec 1 := Scalar.cmpi .ne v2 c31_i32_216
  let v390 : BitVec 32 := Scalar.extui v389
  let c0_i32_217 : BitVec 32 := 0#32
  let v391 : BitVec 1 := Scalar.cmpi .ne v390 c0_i32_217
  v391

def k0_dev96 : Nat :=
  let c0_i32_231 : BitVec 32 := 0#32
  let c31_i32_229 : BitVec 32 := 31#32
  let c1_i32_230 : BitVec 32 := 1#32
  let v407 : BitVec 32 := Scalar.muli c31_i32_229 c1_i32_230
  let v408 : BitVec 32 := Scalar.addi c0_i32_231 v407
  v408.toNat
def k0_cond98 (i : grid0.Coords) : BitVec 1 :=
  let arg0 : BitVec 32 := BitVec.ofNat 32 (i 0).val
  let c0_i32_84 : BitVec 32 := 0#32
  let v191 : BitVec 1 := Scalar.cmpi .eq arg0 c0_i32_84
  let v192 : BitVec 32 := Scalar.extui v191
  let c0_i32_85 : BitVec 32 := 0#32
  let v193 : BitVec 1 := Scalar.cmpi .ne v192 c0_i32_85
  v193

def k0_cond99 (i : grid0.Coords) : BitVec 1 :=
  let arg0 : BitVec 32 := BitVec.ofNat 32 (i 0).val
  let c0_i32_86 : BitVec 32 := 0#32
  let v194 : BitVec 1 := Scalar.cmpi .sgt arg0 c0_i32_86
  let v195 : BitVec 32 := Scalar.extui v194
  let c0_i32_87 : BitVec 32 := 0#32
  let v196 : BitVec 1 := Scalar.cmpi .ne v195 c0_i32_87
  v196

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Steps.lean ====
/-
# The kernel's body as loops over the peers

The printed body repeats one statement for each of the 32 devices of the ring: a signal, a copy, a wait. This
module names each repeated statement once, as a step that takes the peer's number, and shows that every printed
part is such a step run over a list of peers. The proof then reasons about one step and one list.
-/
module

public import proofs.«01_k».proof.Proof.Gen.KernelIdeal.Skeleton

@[expose] public section

set_option maxRecDepth 65536
set_option synthInstance.maxSize 4096

noncomputable section

namespace Cert.KernelIdeal.Steps

open Cert.KernelIdeal Cert.KernelIdeal.Gen
open Idealize.ShloMosaic Idealize.SL.Sem

variable {F : FTy → Type} [FloatOps F]

/-- A body fragment of this kernel. -/
abbrev BP (F : FTy → Type) [FloatOps F] (α : Type) : Type 1 := Prog (TpuEff nD τ sig (Elt F) Λ₀ .tc) α

/-- Run a step for each peer of a list, then go on. -/
def seqK {α : Type} (f : Fin 32 → (Unit → BP F α) → BP F α) : List (Fin 32) → (Unit → BP F α) → BP F α
  | [], k => k ⟨⟩
  | x :: xs, k => f x (fun _ => seqK f xs k)

/-- The device's rank as the kernel computes it. -/
abbrev rk (d0 : Dev nD) : BitVec 32 := Scalar.remsi (Scalar.divsi (Dev.word d0) 1#32) 32#32

/-- "The device is not peer `s`", as the kernel computes it. -/
abbrev neW (d0 : Dev nD) (s : Fin 32) : BitVec 1 :=
  Scalar.cmpi .ne (Scalar.extui (Scalar.cmpi .ne (rk d0) (BitVec.ofNat 32 s.val)) : BitVec 32) 0#32

/-- "Group `s / 4` is this point's and the device is not peer `s`", as the kernel computes it. -/
abbrev grpW (i : grid0.Coords) (d0 : Dev nD) (s : Fin 32) : BitVec 1 :=
  Scalar.cmpi .ne (Scalar.extui (Scalar.andi (Scalar.cmpi .eq (BitVec.ofNat 32 (i 0).val) (BitVec.ofNat 32 (s.val / 4)))
    (Scalar.cmpi .ne (rk d0) (BitVec.ofNat 32 s.val))) : BitVec 32) 0#32

/-- A signal of one to peer `s`'s copy of a semaphore. -/
def sigStep (sm : Sem sig) (d0 : Dev nD) {α : Type} (s : Fin 32) (k : Unit → BP F α) : BP F α := do
  if h : neW d0 s = 1#1 then do
    semSignalWord (s : Dev nD) sm 1#32
    pure ⟨⟩
  else do
    pure ⟨⟩
  k ⟨⟩

abbrev barS : Sem sig := (SemArray.scalar (sig.barrier 0 rfl) : Sems sig S_).sem

/-! ## The repeated views -/

theorem semI_inb (s : Fin 32) : ∀ a, (![s.val] : Fin 1 → Nat) a + S1.size a ≤ S32.size a := by
  revert s; decide +kernel
theorem rkOff1_inb (d : Dev nD) : ∀ a, (![(rk d).toNat] : Fin 1 → Nat) a + S1.size a ≤ S32.size a := by
  revert d; decide +kernel
theorem slot_inb (s : Fin 32) : ∀ a, (![s.val, 0, 0] : Fin 3 → Nat) a + S1x256x256.size a ≤ S32x256x256.size a := by
  revert s; decide +kernel
theorem rkOff3_inb (d : Dev nD) : ∀ a, (![(rk d).toNat, 0, 0] : Fin 3 → Nat) a + S1x256x256.size a ≤ S32x256x256.size a := by
  revert d; decide +kernel
theorem rows_inb (s : Fin 32) : ∀ a, (![256 * s.val, 0] : Fin 2 → Nat) a + S256x256.size a ≤ S8192x256.size a := by
  revert s; decide +kernel

theorem slot_words (s : Fin 32) : (Rect.unit (s := S32x256x256) ![s.val, 0, 0] S1x256x256.size (slot_inb s)).WholeWords (EltTy.packing .bf16) := by
  revert s; decide +kernel
theorem rkOff3_words (d : Dev nD) : (Rect.unit (s := S32x256x256) ![(rk d).toNat, 0, 0] S1x256x256.size (rkOff3_inb d)).WholeWords (EltTy.packing .bf16) := by
  revert d; decide +kernel
theorem rows_words (s : Fin 32) : (Rect.unit (s := S8192x256) ![256 * s.val, 0] S256x256.size (rows_inb s)).WholeWords (EltTy.packing .bf16) := by
  revert s; decide +kernel

/-- One semaphore of an array of 32, by number. -/
abbrev semI (a : DmaSems sig S32) (s : Fin 32) : DmaSems sig S_ :=
  (a.slice (Rect.unit (s := S32) ![s.val] S1.size (semI_inb s))).squeeze S_ squeezes_S1_S_
/-- The one whose number is the device's rank. -/
abbrev semRk (a : DmaSems sig S32) (d : Dev nD) : DmaSems sig S_ :=
  (a.slice (Rect.unit (s := S32) ![(rk d).toNat] S1.size (rkOff1_inb d))).squeeze S_ squeezes_S1_S_
/-- Slot `s` of the landing buffer. -/
abbrev slotI (a : Memref sig .tc .vmem S32x256x256 .bf16) (s : Fin 32) : Memref sig .tc .vmem S256x256 .bf16 :=
  (a.slice (Rect.unit (s := S32x256x256) ![s.val, 0, 0] S1x256x256.size (slot_inb s)) (fun _ => rfl)).squeeze S256x256 squeezes_S1x256x256_S256x256
/-- The slot whose number is the device's rank. -/
abbrev slotRk (a : Memref sig .tc .vmem S32x256x256 .bf16) (d : Dev nD) : Memref sig .tc .vmem S256x256 .bf16 :=
  (a.slice (Rect.unit (s := S32x256x256) ![(rk d).toNat, 0, 0] S1x256x256.size (rkOff3_inb d)) (fun _ => rfl)).squeeze S256x256 squeezes_S1x256x256_S256x256
/-- The rows of the copied block that go to peer `s`. -/
abbrev rowsI (a : Memref sig .tc .vmem S8192x256 .bf16) (s : Fin 32) : Memref sig .tc .vmem S256x256 .bf16 :=
  a.slice (Rect.unit (s := S8192x256) ![256 * s.val, 0] S256x256.size (rows_inb s)) (fun _ => rfl)

variable (i : grid0.Coords) (arg1 : Memref sig .tc .vmem S8192x256 .bf16) (harg1 : arg1.IsWhole) (arg2 : Memref sig .tc .vmem S1024x4096 .bf16) (harg2 : arg2.IsWhole) (arg3 : Memref sig .tc .vmem S256x4096 .f32) (harg3 : arg3.IsWhole) (arg4 : Memref sig .tc .vmem S8192x256 .bf16) (harg4 : arg4.IsWhole) (arg5 : Memref sig .tc .vmem S32x256x256 .bf16) (harg5 : arg5.IsWhole) (arg6 : DmaSems sig S32) (arg7 : DmaSems sig S32) (arg8 : Sems sig S_)

/-- The copy of the rows of peer `s` into that peer's slot of the device's rank. -/
def sendStep (d0 : Dev nD) {α : Type} (s : Fin 32) (k : Unit → BP F α) : BP F α := do
  if h : neW d0 s = 1#1 then do
    Prog.lift (.enqueueDma (rowsI arg4 s) (.remote (Dev.tc (s : Dev nD)) (slotRk arg5 d0) (.dma (semI arg6 s).sem)) (.dma (semRk arg7 d0).sem) (harg4.wordExact_slice rfl _ (rows_words s)) ((harg5.wordExact_slice rfl _ (rkOff3_words d0)).reshape _ _) ⟨⟨rfl, Or.inl rfl⟩, trivial⟩)
    pure ⟨⟩
  else do
    pure ⟨⟩
  k ⟨⟩

/-- The wait for the rows of peer `s`, at the point that first needs them. -/
def recvStep (d0 : Dev nD) {α : Type} (s : Fin 32) (k : Unit → BP F α) : BP F α := do
  if h : grpW i d0 s = 1#1 then do
    Prog.lift (.waitDma2 (semI arg7 s).sem (rowsI arg4 s) (slotI arg5 s) (harg4.wordExact_slice rfl _ (rows_words s)) ((harg5.wordExact_slice rfl _ (slot_words s)).reshape _ _))
    pure ⟨⟩
  else do
    pure ⟨⟩
  k ⟨⟩

/-- The wait for the end of the device's own copy to peer `s`. -/
def doneStep (d0 : Dev nD) {α : Type} (s : Fin 32) (k : Unit → BP F α) : BP F α := do
  if h : neW d0 s = 1#1 then do
    Prog.lift (.waitDma2 (semI arg6 s).sem (slotRk arg5 d0) (rowsI arg4 s) ((harg5.wordExact_slice rfl _ (rkOff3_words d0)).reshape _ _) (harg4.wordExact_slice rfl _ (rows_words s)))
    pure ⟨⟩
  else do
    pure ⟨⟩
  k ⟨⟩

/-! ## Running a list of steps and going on -/

theorem seqK_append {α : Type} (f : Fin 32 → (Unit → BP F α) → BP F α) (xs ys : List (Fin 32)) (k : Unit → BP F α) :
    seqK f (xs ++ ys) k = seqK f xs (fun _ => seqK f ys k) := by
  induction xs with
  | nil => rfl
  | cons x xs ih => simp only [List.cons_append, seqK, ih]

/-- A step passes what comes after it on to its continuation. -/
def StepBind (f : ∀ {α : Type}, Fin 32 → (Unit → BP F α) → BP F α) : Prop :=
  ∀ {α β : Type} (s : Fin 32) (k : Unit → BP F α) (g : α → BP F β), (f s k >>= g) = f s (fun u => k u >>= g)

theorem seqK_bind {f : ∀ {α : Type}, Fin 32 → (Unit → BP F α) → BP F α} (hf : StepBind f) {α β : Type} (xs : List (Fin 32))
    (k : Unit → BP F α) (g : α → BP F β) : (seqK f xs k >>= g) = seqK f xs (fun u => k u >>= g) := by
  induction xs with
  | nil => rfl
  | cons x xs ih => simp only [seqK]; rw [hf]; congr 1; funext u; exact ih

theorem sig_bind (sm : Sem sig) (d0 : Dev nD) : StepBind (F := F) (sigStep sm d0) := by
  intro α β s k g
  unfold sigStep
  by_cases h : neW d0 s = 1#1 <;> simp only [h, ↓reduceDIte] <;> rfl
theorem send_bind (d0 : Dev nD) : StepBind (F := F) (sendStep arg4 harg4 arg5 harg5 arg6 arg7 d0) := by
  intro α β s k g
  unfold sendStep
  by_cases h : neW d0 s = 1#1 <;> simp only [h, ↓reduceDIte] <;> rfl
theorem recv_bind (d0 : Dev nD) : StepBind (F := F) (recvStep i arg4 harg4 arg5 harg5 arg7 d0) := by
  intro α β s k g
  unfold recvStep
  by_cases h : grpW i d0 s = 1#1 <;> simp only [h, ↓reduceDIte] <;> rfl
theorem done_bind (d0 : Dev nD) : StepBind (F := F) (doneStep arg4 harg4 arg5 harg5 arg6 d0) := by
  intro α β s k g
  unfold doneStep
  by_cases h : neW d0 s = 1#1 <;> simp only [h, ↓reduceDIte] <;> rfl

theorem send_congr (d0 : Dev nD) {α : Type} (s : Fin 32) {X Y : BP F α} (hk : X = Y) :
    (do
      if h : neW d0 s = 1#1 then do
        Prog.lift (.enqueueDma (rowsI arg4 s) (.remote (Dev.tc (s : Dev nD)) (slotRk arg5 d0) (.dma (semI arg6 s).sem)) (.dma (semRk arg7 d0).sem) (harg4.wordExact_slice rfl _ (rows_words s)) ((harg5.wordExact_slice rfl _ (rkOff3_words d0)).reshape _ _) ⟨⟨rfl, Or.inl rfl⟩, trivial⟩)
        pure ⟨⟩
      else do
        pure ⟨⟩
      X) = sendStep arg4 harg4 arg5 harg5 arg6 arg7 d0 s (fun _ => Y) := by
  subst hk; rfl

/-! ## The printed parts -/

theorem part1_seq (d0 : Dev nD) (v2 : BitVec 32) (h1 : k0_cond1 i = 1#1) :
    k0_part1 (F := F) i arg1 harg1 arg2 harg2 arg3 harg3 arg4 harg4 arg5 harg5 arg6 arg7 arg8 d0 v2 (SemArray.scalar (sig.barrier 0 rfl)) h1 =
      seqK (sigStep barS d0) [0, 1, 2, 3, 4, 5, 6, 7, 8, 9] pure := by
  rw [k0_part1_eq_skeleton]; rfl

theorem part2_seq (d0 : Dev nD) (v2 : BitVec 32) (h1 : k0_cond1 i = 1#1) :
    k0_part2 (F := F) i arg1 harg1 arg2 harg2 arg3 harg3 arg4 harg4 arg5 harg5 arg6 arg7 arg8 d0 v2 (SemArray.scalar (sig.barrier 0 rfl)) h1 =
      seqK (sigStep barS d0) [10, 11, 12, 13, 14, 15, 16, 17, 18, 19] pure := by
  rw [k0_part2_eq_skeleton]; rfl

theorem part3_seq (d0 : Dev nD) (v2 : BitVec 32) (h1 : k0_cond1 i = 1#1) :
    k0_part3 (F := F) i arg1 harg1 arg2 harg2 arg3 harg3 arg4 harg4 arg5 harg5 arg6 arg7 arg8 d0 v2 (SemArray.scalar (sig.barrier 0 rfl)) h1 =
      seqK (sigStep barS d0) [20, 21, 22, 23, 24, 25, 26, 27, 28, 29] pure := by
  rw [k0_part3_eq_skeleton]; rfl

/-- The wait at the barrier, the copy of the block into the scratch buffer, and the device's own rows into its own slot. -/
def mid (d0 : Dev nD) (h1 : k0_cond1 i = 1#1) {α : Type} (k : Unit → BP F α) : BP F α := do
  semWaitWord barS 31#32
  let v296 : Vec F S8192x256 .bf16 ← Prog.lift (.load arg1 (Rect.unit (s := S8192x256) ![0, 0] S8192x256.size inb_S8192x256_S8192x256_0_0).toLoadRect (View.loadsAt_vmem h_S8192x256))
  let v298 : Vec F S8192x256 .bf16 ← Prog.lift (.load arg4 (Rect.unit (s := S8192x256) ![0, 0] S8192x256.size inb_S8192x256_S8192x256_0_0).toLoadRect (View.loadsAt_vmem h_S8192x256))
  Prog.lift (.store arg4 (Rect.unit (s := S8192x256) ![0, 0] S8192x256.size inb_S8192x256_S8192x256_0_0) (k0_pay2 v296) Finset.univ (View.stores_vmem h_S8192x256 (harg4.storeExact_slice rfl _ packedbf16_S8192x256_S8192x256_0_0) (fun _ => rfl)) (.inl rfl))
  let v303 : Vec F S256x256 .bf16 ← Prog.lift (.load arg4 (Rect.unit (s := S8192x256) (k0_off1 d0) S256x256.size (k0_off1_inb i d0 h1)).toLoadRect (View.loadsAt_vmem h_S256x256))
  let v305 : Vec F S1x256x256 .bf16 ← Prog.lift (.load arg5 (Rect.unit (s := S32x256x256) (k0_off2 d0) S1x256x256.size (k0_off2_inb i d0 h1)).toLoadRect (View.loadsAt_vmem h_S1x256x256))
  Prog.lift (.store arg5 (Rect.unit (s := S32x256x256) (k0_off2 d0) S1x256x256.size (k0_off2_inb i d0 h1)) (k0_pay3 v303) Finset.univ (View.stores_vmem h_S1x256x256 (harg5.storeExact_slice rfl _ (k0_off2_packedbf16 i d0 h1)) (fun _ => rfl)) (.inl rfl))
  k ⟨⟩

theorem part4_seq (d0 : Dev nD) (v2 : BitVec 32) (h1 : k0_cond1 i = 1#1) :
    k0_part4 (F := F) i arg1 harg1 arg2 harg2 arg3 harg3 arg4 harg4 arg5 harg5 arg6 arg7 arg8 d0 v2 (SemArray.scalar (sig.barrier 0 rfl)) h1 =
      seqK (sigStep barS d0) [30, 31] (fun _ => mid i arg1 arg4 harg4 arg5 harg5 d0 h1 (fun _ => seqK (sendStep arg4 harg4 arg5 harg5 arg6 arg7 d0) [0, 1, 2] pure)) := by
  rw [k0_part4_eq_skeleton]; rfl

theorem part5_seq (d0 : Dev nD) (v2 : BitVec 32) (h1 : k0_cond1 i = 1#1) :
    k0_part5 (F := F) i arg1 harg1 arg2 harg2 arg3 harg3 arg4 harg4 arg5 harg5 arg6 arg7 arg8 d0 v2 h1 =
      seqK (sendStep arg4 harg4 arg5 harg5 arg6 arg7 d0) [3, 4, 5, 6, 7, 8, 9, 10, 11, 12] pure := by
  rw [k0_part5_eq_skeleton]; unfold k0_part5_skel; simp only [seqK]
  refine send_congr arg4 harg4 arg5 harg5 arg6 arg7 d0 3 ?_
  refine send_congr arg4 harg4 arg5 harg5 arg6 arg7 d0 4 ?_
  refine send_congr arg4 harg4 arg5 harg5 arg6 arg7 d0 5 ?_
  refine send_congr arg4 harg4 arg5 harg5 arg6 arg7 d0 6 ?_
  refine send_congr arg4 harg4 arg5 harg5 arg6 arg7 d0 7 ?_
  refine send_congr arg4 harg4 arg5 harg5 arg6 arg7 d0 8 ?_
  refine send_congr arg4 harg4 arg5 harg5 arg6 arg7 d0 9 ?_
  refine send_congr arg4 harg4 arg5 harg5 arg6 arg7 d0 10 ?_
  refine send_congr arg4 harg4 arg5 harg5 arg6 arg7 d0 11 ?_
  refine send_congr arg4 harg4 arg5 harg5 arg6 arg7 d0 12 ?_
  rfl

theorem part6_seq (d0 : Dev nD) (v2 : BitVec 32) (h1 : k0_cond1 i = 1#1) :
    k0_part6 (F := F) i arg1 harg1 arg2 harg2 arg3 harg3 arg4 harg4 arg5 harg5 arg6 arg7 arg8 d0 v2 h1 =
      seqK (sendStep arg4 harg4 arg5 harg5 arg6 arg7 d0) [13, 14, 15, 16, 17, 18, 19, 20, 21, 22] pure := by
  rw [k0_part6_eq_skeleton]; unfold k0_part6_skel; simp only [seqK]
  refine send_congr arg4 harg4 arg5 harg5 arg6 arg7 d0 13 ?_
  refine send_congr arg4 harg4 arg5 harg5 arg6 arg7 d0 14 ?_
  refine send_congr arg4 harg4 arg5 harg5 arg6 arg7 d0 15 ?_
  refine send_congr arg4 harg4 arg5 harg5 arg6 arg7 d0 16 ?_
  refine send_congr arg4 harg4 arg5 harg5 arg6 arg7 d0 17 ?_
  refine send_congr arg4 harg4 arg5 harg5 arg6 arg7 d0 18 ?_
  refine send_congr arg4 harg4 arg5 harg5 arg6 arg7 d0 19 ?_
  refine send_congr arg4 harg4 arg5 harg5 arg6 arg7 d0 20 ?_
  refine send_congr arg4 harg4 arg5 harg5 arg6 arg7 d0 21 ?_
  refine send_congr arg4 harg4 arg5 harg5 arg6 arg7 d0 22 ?_
  rfl

theorem part7_seq (d0 : Dev nD) (v2 : BitVec 32) (h100 : k0_cond100 i = 1#1) :
    k0_part7 (F := F) i arg1 harg1 arg2 harg2 arg3 harg3 arg4 harg4 arg5 harg5 arg6 arg7 arg8 d0 v2 h100 =
      seqK (doneStep arg4 harg4 arg5 harg5 arg6 d0) [0, 1, 2, 3, 4, 5, 6, 7, 8, 9] pure := by
  rw [k0_part7_eq_skeleton]; rfl

theorem part8_seq (d0 : Dev nD) (v2 : BitVec 32) (h100 : k0_cond100 i = 1#1) :
    k0_part8 (F := F) i arg1 harg1 arg2 harg2 arg3 harg3 arg4 harg4 arg5 harg5 arg6 arg7 arg8 d0 v2 h100 =
      seqK (doneStep arg4 harg4 arg5 harg5 arg6 d0) [10, 11, 12, 13, 14, 15, 16, 17, 18, 19] pure := by
  rw [k0_part8_eq_skeleton]; rfl

theorem part9_seq (d0 : Dev nD) (v2 : BitVec 32) (h100 : k0_cond100 i = 1#1) :
    k0_part9 (F := F) i arg1 harg1 arg2 harg2 arg3 harg3 arg4 harg4 arg5 harg5 arg6 arg7 arg8 d0 v2 h100 =
      seqK (doneStep arg4 harg4 arg5 harg5 arg6 d0) [20, 21, 22, 23, 24, 25, 26, 27, 28, 29] pure := by
  rw [k0_part9_eq_skeleton]; rfl

theorem part10_seq (d0 : Dev nD) (v2 : BitVec 32) (h100 : k0_cond100 i = 1#1) :
    k0_part10 (F := F) i arg1 harg1 arg2 harg2 arg3 harg3 arg4 harg4 arg5 harg5 arg6 arg7 arg8 d0 v2 h100 =
      seqK (doneStep arg4 harg4 arg5 harg5 arg6 d0) [30, 31] (fun _ => seqK (sigStep arg8.sem d0) [0, 1, 2, 3, 4, 5, 6, 7] pure) := by
  rw [k0_part10_eq_skeleton]; rfl

theorem part11_seq (d0 : Dev nD) (v2 : BitVec 32) (h100 : k0_cond100 i = 1#1) :
    k0_part11 (F := F) i arg1 harg1 arg2 harg2 arg3 harg3 arg4 harg4 arg5 harg5 arg6 arg7 arg8 d0 v2 h100 =
      seqK (sigStep arg8.sem d0) [8, 9, 10, 11, 12, 13, 14, 15, 16, 17] pure := by
  rw [k0_part11_eq_skeleton]; rfl

theorem part12_seq (d0 : Dev nD) (v2 : BitVec 32) (h100 : k0_cond100 i = 1#1) :
    k0_part12 (F := F) i arg1 harg1 arg2 harg2 arg3 harg3 arg4 harg4 arg5 harg5 arg6 arg7 arg8 d0 v2 h100 =
      seqK (sigStep arg8.sem d0) [18, 19, 20, 21, 22, 23, 24, 25, 26, 27] pure := by
  rw [k0_part12_eq_skeleton]; rfl

theorem part14_seq (d0 : Dev nD) :
    k0_part14 (F := F) i arg1 harg1 arg2 harg2 arg3 harg3 arg4 harg4 arg5 harg5 arg6 arg7 arg8 (BitVec.ofNat 32 (i 0).val) (rk d0) 1#32 =
      seqK (recvStep i arg4 harg4 arg5 harg5 arg7 d0) [5, 6, 7, 8, 9, 10] (fun _ => pure ⟨(Scalar.extui (Scalar.andi (Scalar.cmpi .eq (BitVec.ofNat 32 (i 0).val) 2#32) (Scalar.cmpi .ne (rk d0) 11#32))), 0#32⟩) := by
  rw [k0_part14_eq_skeleton]; rfl

theorem part15_seq (d0 : Dev nD) :
    k0_part15 (F := F) i arg1 harg1 arg2 harg2 arg3 harg3 arg4 harg4 arg5 harg5 arg6 arg7 arg8 (BitVec.ofNat 32 (i 0).val) (rk d0) (Scalar.extui (Scalar.andi (Scalar.cmpi .eq (BitVec.ofNat 32 (i 0).val) 2#32) (Scalar.cmpi .ne (rk d0) 11#32))) 0#32 =
      seqK (recvStep i arg4 harg4 arg5 harg5 arg7 d0) [11, 12, 13, 14, 15, 16, 17] (fun _ => pure ⟨Scalar.cmpi .eq (BitVec.ofNat 32 (i 0).val) 4#32, Scalar.cmpi .ne (rk d0) 18#32⟩) := by
  rw [k0_part15_eq_skeleton]; rfl

theorem part16_seq (d0 : Dev nD) :
    k0_part16 (F := F) i arg1 harg1 arg2 harg2 arg3 harg3 arg4 harg4 arg5 harg5 arg6 arg7 arg8 (BitVec.ofNat 32 (i 0).val) (rk d0) (Scalar.cmpi .eq (BitVec.ofNat 32 (i 0).val) 4#32) (Scalar.cmpi .ne (rk d0) 18#32) =
      seqK (recvStep i arg4 harg4 arg5 harg5 arg7 d0) [18, 19, 20, 21, 22, 23, 24] (fun _ => pure 6#32) := by
  rw [k0_part16_eq_skeleton]; rfl

theorem part17_seq (d0 : Dev nD) :
    k0_part17 (F := F) i arg1 harg1 arg2 harg2 arg3 harg3 arg4 harg4 arg5 harg5 arg6 arg7 arg8 (BitVec.ofNat 32 (i 0).val) (rk d0) 6#32 =
      seqK (recvStep i arg4 harg4 arg5 harg5 arg7 d0) [25, 26, 27, 28, 29, 30] (fun _ => pure ⟨(Scalar.extui (Scalar.andi (Scalar.cmpi .eq (BitVec.ofNat 32 (i 0).val) 7#32) (Scalar.cmpi .ne (rk d0) 31#32))), 0#32⟩) := by
  rw [k0_part17_eq_skeleton]; rfl

/-- All peers, in the order the body names them. -/
abbrev peers : List (Fin 32) := [0, 1, 2, 3, 4, 5, 6, 7, 8, 9, 10, 11, 12, 13, 14, 15, 16, 17, 18, 19, 20, 21, 22, 23, 24, 25, 26, 27, 28, 29, 30, 31]

/-- The four slots of the point's group against the point's block of weights, into the accumulator. -/
def comp {α : Type} (k : Unit → BP F α) : BP F α := do
  let v170 : Vec F S1x256x256 .bf16 ← Prog.lift (.load arg5 (Rect.unit (s := S32x256x256) (k0_off67 i 0#32) S1x256x256.size (k0_off67_inb i 0)).toLoadRect (View.loadsAt_vmem h_S1x256x256))
  let v175 : Vec F S1x256x256 .bf16 ← Prog.lift (.load arg5 (Rect.unit (s := S32x256x256) (k0_off67 i 1#32) S1x256x256.size (k0_off67_inb i 1)).toLoadRect (View.loadsAt_vmem h_S1x256x256))
  let v180 : Vec F S1x256x256 .bf16 ← Prog.lift (.load arg5 (Rect.unit (s := S32x256x256) (k0_off67 i 2#32) S1x256x256.size (k0_off67_inb i 2)).toLoadRect (View.loadsAt_vmem h_S1x256x256))
  let v185 : Vec F S1x256x256 .bf16 ← Prog.lift (.load arg5 (Rect.unit (s := S32x256x256) (k0_off67 i 3#32) S1x256x256.size (k0_off67_inb i 3)).toLoadRect (View.loadsAt_vmem h_S1x256x256))
  let v188 : Vec F S1024x4096 .bf16 ← Prog.lift (.load arg2 (Rect.unit (s := S1024x4096) ![0, 0] S1024x4096.size inb_S1024x4096_S1024x4096_0_0).toLoadRect (View.loadsAt_vmem h_S1024x4096))
  if h98 : k0_cond98 i = 1#1 then do
    let v200 : Vec F S256x4096 .f32 ← Prog.lift (.load arg3 (Rect.unit (s := S256x4096) ![0, 0] S256x4096.size inb_S256x4096_S256x4096_0_0).toLoadRect (View.loadsAt_vmem h_S256x4096))
    Prog.lift (.store arg3 (Rect.unit (s := S256x4096) ![0, 0] S256x4096.size inb_S256x4096_S256x4096_0_0) (k0_pay4 v170 v175 v180 v185 v188) Finset.univ (View.stores_vmem_bits_univ h_S256x4096 rfl) (.inl rfl))
    pure ⟨⟩
  else do
    pure ⟨⟩
  if h99 : k0_cond99 i = 1#1 then do
    let v200 : Vec F S256x4096 .f32 ← Prog.lift (.load arg3 (Rect.unit (s := S256x4096) ![0, 0] S256x4096.size inb_S256x4096_S256x4096_0_0).toLoadRect (View.loadsAt_vmem h_S256x4096))
    let v203 : Vec F S256x4096 .f32 ← Prog.lift (.load arg3 (Rect.unit (s := S256x4096) ![0, 0] S256x4096.size inb_S256x4096_S256x4096_0_0).toLoadRect (View.loadsAt_vmem h_S256x4096))
    Prog.lift (.store arg3 (Rect.unit (s := S256x4096) ![0, 0] S256x4096.size inb_S256x4096_S256x4096_0_0) (k0_pay5 v170 v175 v180 v185 v188 v200) Finset.univ (View.stores_vmem_bits_univ h_S256x4096 rfl) (.inl rfl))
    pure ⟨⟩
  else do
    pure ⟨⟩
  k ⟨⟩

/-- The first point: the handshake, the block and the copies. -/
def pro (d0 : Dev nD) (h1 : k0_cond1 i = 1#1) {α : Type} (k : Unit → BP F α) : BP F α :=
  seqK (sigStep barS d0) peers (fun _ => mid i arg1 arg4 harg4 arg5 harg5 d0 h1 (fun _ =>
    seqK (sendStep arg4 harg4 arg5 harg5 arg6 arg7 d0) peers k))

/-- The end of the last point: the wait for the exit signals, and the activation of the accumulator. -/
def act : BP F Unit := do
  semWaitWord arg8.sem 31#32
  let v392 : Vec F S256x4096 .f32 ← Prog.lift (.load arg3 (Rect.unit (s := S256x4096) ![0, 0] S256x4096.size inb_S256x4096_S256x4096_0_0).toLoadRect (View.loadsAt_vmem h_S256x4096))
  let v406 : Vec F S256x4096 .f32 ← Prog.lift (.load arg3 (Rect.unit (s := S256x4096) ![0, 0] S256x4096.size inb_S256x4096_S256x4096_0_0).toLoadRect (View.loadsAt_vmem h_S256x4096))
  Prog.lift (.store arg3 (Rect.unit (s := S256x4096) ![0, 0] S256x4096.size inb_S256x4096_S256x4096_0_0) (k0_pay1 v392) Finset.univ (View.stores_vmem_bits_univ h_S256x4096 rfl) (.inl rfl))
  pure ⟨⟩

/-- The last point: the copies' ends, the exit handshake, the activation. -/
def epi (d0 : Dev nD) : BP F Unit :=
  seqK (doneStep arg4 harg4 arg5 harg5 arg6 d0) peers (fun _ =>
    seqK (sigStep arg8.sem d0) peers (fun _ => act arg3 arg8))

/-- What every point does after the first point's extra part. -/
def rest (d0 : Dev nD) : BP F Unit :=
  seqK (recvStep i arg4 harg4 arg5 harg5 arg7 d0) peers (fun _ => comp i arg2 arg3 arg5 (fun _ =>
    if h100 : k0_cond100 i = 1#1 then epi arg3 arg4 harg4 arg5 harg5 arg6 arg8 d0 else pure ⟨⟩))

/-- The body over the loops. -/
def main : BP F Unit := do
  let d0 : Dev nD ← Prog.lift .deviceId
  if h1 : k0_cond1 i = 1#1 then
    pro i arg1 arg4 harg4 arg5 harg5 arg6 arg7 d0 h1 (fun _ => rest i arg2 arg3 arg4 harg4 arg5 harg5 arg6 arg7 arg8 d0)
  else rest i arg2 arg3 arg4 harg4 arg5 harg5 arg6 arg7 arg8 d0

theorem mid_bind (d0 : Dev nD) (h1 : k0_cond1 i = 1#1) {α β : Type} (k : Unit → BP F α) (g : α → BP F β) :
    (mid i arg1 arg4 harg4 arg5 harg5 d0 h1 k >>= g) = mid i arg1 arg4 harg4 arg5 harg5 d0 h1 (fun u => k u >>= g) := rfl

theorem comp_bind {α β : Type} (k : Unit → BP F α) (g : α → BP F β) :
    (comp i arg2 arg3 arg5 k >>= g) = comp i arg2 arg3 arg5 (fun u => k u >>= g) := by
  unfold comp
  by_cases h98 : k0_cond98 i = 1#1 <;> by_cases h99 : k0_cond99 i = 1#1 <;> simp only [h98, h99, ↓reduceDIte] <;> rfl

theorem pro_bind (d0 : Dev nD) (h1 : k0_cond1 i = 1#1) {α β : Type} (k : Unit → BP F α) (g : α → BP F β) :
    (pro i arg1 arg4 harg4 arg5 harg5 arg6 arg7 d0 h1 k >>= g) = pro i arg1 arg4 harg4 arg5 harg5 arg6 arg7 d0 h1 (fun u => k u >>= g) := by
  unfold pro
  rw [seqK_bind (sig_bind barS d0)]
  simp only [mid_bind, seqK_bind (send_bind arg4 harg4 arg5 harg5 arg6 arg7 d0)]

/-- The first point's part as the printed parts cut it. -/
theorem pro_split (d0 : Dev nD) (h1 : k0_cond1 i = 1#1) {α : Type} (k : Unit → BP F α) :
    pro i arg1 arg4 harg4 arg5 harg5 arg6 arg7 d0 h1 k =
      (seqK (sigStep barS d0) [0, 1, 2, 3, 4, 5, 6, 7, 8, 9] pure >>= fun _ => seqK (sigStep barS d0) [10, 11, 12, 13, 14, 15, 16, 17, 18, 19] pure >>= fun _ => seqK (sigStep barS d0) [20, 21, 22, 23, 24, 25, 26, 27, 28, 29] pure >>= fun _ =>
        seqK (sigStep barS d0) [30, 31] (fun _ => mid i arg1 arg4 harg4 arg5 harg5 d0 h1 (fun _ => seqK (sendStep arg4 harg4 arg5 harg5 arg6 arg7 d0) [0, 1, 2] pure)) >>= fun _ =>
        seqK (sendStep arg4 harg4 arg5 harg5 arg6 arg7 d0) [3, 4, 5, 6, 7, 8, 9, 10, 11, 12] pure >>= fun _ => seqK (sendStep arg4 harg4 arg5 harg5 arg6 arg7 d0) [13, 14, 15, 16, 17, 18, 19, 20, 21, 22] pure >>= fun _ => seqK (sendStep arg4 harg4 arg5 harg5 arg6 arg7 d0) [23, 24, 25, 26, 27, 28, 29, 30, 31] k) := by
  simp only [seqK_bind (sig_bind barS d0), seqK_bind (send_bind arg4 harg4 arg5 harg5 arg6 arg7 d0), mid_bind]
  rfl

theorem bind_congr {α β : Type} {a a' : BP F α} {f g : α → BP F β} (ha : a = a') (hf : ∀ u, f u = g u) : (a >>= f) = (a' >>= g) := by
  subst ha; rw [funext hf]

theorem branch_congr {α : Type} {X Y : BP F α} {P Q : k0_cond1 i = 1#1 → BP F α} (hX : X = Y) (hP : ∀ h, P h = Q h) :
    (if h : k0_cond1 i = 1#1 then P h else X) = (if h : k0_cond1 i = 1#1 then Q h else Y) := by
  subst hX; rw [funext hP]

theorem part18_seq (d0 : Dev nD) :
    k0_part18 (F := F) i arg1 harg1 arg2 harg2 arg3 harg3 arg4 harg4 arg5 harg5 arg6 arg7 arg8 (BitVec.ofNat 32 (i 0).val) (Scalar.extui (Scalar.andi (Scalar.cmpi .eq (BitVec.ofNat 32 (i 0).val) 7#32) (Scalar.cmpi .ne (rk d0) 31#32))) 0#32 =
      seqK (recvStep i arg4 harg4 arg5 harg5 arg7 d0) [31] (fun _ => comp i arg2 arg3 arg5 (fun _ => pure (Scalar.extui (Scalar.cmpi .eq (BitVec.ofNat 32 (i 0).val) 7#32)))) := by
  rw [k0_part18_eq_skeleton]; rfl

theorem part13_seq :
    k0_part13 (F := F) i arg1 harg1 arg2 harg2 arg3 harg3 arg4 harg4 arg5 harg5 arg6 arg7 arg8 = Prog.lift .deviceId >>= fun d0 =>
      if h1 : k0_cond1 i = 1#1 then
        pro i arg1 arg4 harg4 arg5 harg5 arg6 arg7 d0 h1 (fun _ => seqK (recvStep i arg4 harg4 arg5 harg5 arg7 d0) [0, 1, 2, 3, 4] (fun _ => pure ⟨(BitVec.ofNat 32 (i 0).val), d0, rk d0, 1#32⟩))
      else seqK (recvStep i arg4 harg4 arg5 harg5 arg7 d0) [0, 1, 2, 3, 4] (fun _ => pure ⟨(BitVec.ofNat 32 (i 0).val), d0, rk d0, 1#32⟩) := by
  rw [k0_part13_eq_skeleton]; unfold k0_part13_skel
  refine bind_congr rfl (fun d0 => ?_)
  refine branch_congr i rfl (fun h1 => ?_)
  rw [pro_split]
  refine bind_congr (part1_seq i arg1 harg1 arg2 harg2 arg3 harg3 arg4 harg4 arg5 harg5 arg6 arg7 arg8 d0 _ h1) (fun _ => ?_)
  refine bind_congr (part2_seq i arg1 harg1 arg2 harg2 arg3 harg3 arg4 harg4 arg5 harg5 arg6 arg7 arg8 d0 _ h1) (fun _ => ?_)
  refine bind_congr (part3_seq i arg1 harg1 arg2 harg2 arg3 harg3 arg4 harg4 arg5 harg5 arg6 arg7 arg8 d0 _ h1) (fun _ => ?_)
  refine bind_congr (part4_seq i arg1 harg1 arg2 harg2 arg3 harg3 arg4 harg4 arg5 harg5 arg6 arg7 arg8 d0 _ h1) (fun _ => ?_)
  refine bind_congr (part5_seq i arg1 harg1 arg2 harg2 arg3 harg3 arg4 harg4 arg5 harg5 arg6 arg7 arg8 d0 _ h1) (fun _ => ?_)
  refine bind_congr (part6_seq i arg1 harg1 arg2 harg2 arg3 harg3 arg4 harg4 arg5 harg5 arg6 arg7 arg8 d0 _ h1) (fun _ => ?_)
  simp only [seqK]
  refine send_congr arg4 harg4 arg5 harg5 arg6 arg7 d0 23 ?_
  refine send_congr arg4 harg4 arg5 harg5 arg6 arg7 d0 24 ?_
  refine send_congr arg4 harg4 arg5 harg5 arg6 arg7 d0 25 ?_
  refine send_congr arg4 harg4 arg5 harg5 arg6 arg7 d0 26 ?_
  refine send_congr arg4 harg4 arg5 harg5 arg6 arg7 d0 27 ?_
  refine send_congr arg4 harg4 arg5 harg5 arg6 arg7 d0 28 ?_
  refine send_congr arg4 harg4 arg5 harg5 arg6 arg7 d0 29 ?_
  refine send_congr arg4 harg4 arg5 harg5 arg6 arg7 d0 30 ?_
  refine send_congr arg4 harg4 arg5 harg5 arg6 arg7 d0 31 ?_
  rfl

/-- The last point's part as the printed parts cut it. -/
theorem epi_split (d0 : Dev nD) :
    epi (F := F) arg3 arg4 harg4 arg5 harg5 arg6 arg8 d0 =
      (seqK (doneStep arg4 harg4 arg5 harg5 arg6 d0) [0, 1, 2, 3, 4, 5, 6, 7, 8, 9] pure >>= fun _ => seqK (doneStep arg4 harg4 arg5 harg5 arg6 d0) [10, 11, 12, 13, 14, 15, 16, 17, 18, 19] pure >>= fun _ => seqK (doneStep arg4 harg4 arg5 harg5 arg6 d0) [20, 21, 22, 23, 24, 25, 26, 27, 28, 29] pure >>= fun _ =>
        seqK (doneStep arg4 harg4 arg5 harg5 arg6 d0) [30, 31] (fun _ => seqK (sigStep arg8.sem d0) [0, 1, 2, 3, 4, 5, 6, 7] pure) >>= fun _ =>
        seqK (sigStep arg8.sem d0) [8, 9, 10, 11, 12, 13, 14, 15, 16, 17] pure >>= fun _ => seqK (sigStep arg8.sem d0) [18, 19, 20, 21, 22, 23, 24, 25, 26, 27] pure >>= fun _ => seqK (sigStep arg8.sem d0) [28, 29, 30, 31] (fun _ => act arg3 arg8)) := by
  simp only [seqK_bind (sig_bind arg8.sem d0), seqK_bind (done_bind arg4 harg4 arg5 harg5 arg6 d0)]
  rfl

/-- What follows the waits for the groups, as the printed parts cut it. -/
theorem rest_split (d0 : Dev nD) :
    rest (F := F) i arg2 arg3 arg4 harg4 arg5 harg5 arg6 arg7 arg8 d0 =
      (seqK (recvStep i arg4 harg4 arg5 harg5 arg7 d0) [0, 1, 2, 3, 4] pure >>= fun _ => seqK (recvStep i arg4 harg4 arg5 harg5 arg7 d0) [5, 6, 7, 8, 9, 10] pure >>= fun _ => seqK (recvStep i arg4 harg4 arg5 harg5 arg7 d0) [11, 12, 13, 14, 15, 16, 17] pure >>= fun _ =>
        seqK (recvStep i arg4 harg4 arg5 harg5 arg7 d0) [18, 19, 20, 21, 22, 23, 24] pure >>= fun _ => seqK (recvStep i arg4 harg4 arg5 harg5 arg7 d0) [25, 26, 27, 28, 29, 30] pure >>= fun _ => seqK (recvStep i arg4 harg4 arg5 harg5 arg7 d0) [31] pure >>= fun _ =>
        comp i arg2 arg3 arg5 (fun _ => if h100 : k0_cond100 i = 1#1 then epi arg3 arg4 harg4 arg5 harg5 arg6 arg8 d0 else pure ⟨⟩)) := by
  simp only [seqK_bind (recv_bind i arg4 harg4 arg5 harg5 arg7 d0)]
  rfl

theorem seq_ret {f : ∀ {α : Type}, Fin 32 → (Unit → BP F α) → BP F α} (hf : StepBind f) {α β : Type} (xs : List (Fin 32))
    (a : α) (g : α → BP F β) : (seqK f xs (fun _ => pure a) >>= g) = (seqK f xs pure >>= fun _ => g a) := by
  rw [seqK_bind hf, seqK_bind hf]; rfl

theorem epi_eq (d0 : Dev nD) (v2 : BitVec 32) (h100 : k0_cond100 i = 1#1) :
    (k0_part7 (F := F) i arg1 harg1 arg2 harg2 arg3 harg3 arg4 harg4 arg5 harg5 arg6 arg7 arg8 d0 v2 h100 >>= fun _ => k0_part8 i arg1 harg1 arg2 harg2 arg3 harg3 arg4 harg4 arg5 harg5 arg6 arg7 arg8 d0 v2 h100 >>= fun _ => k0_part9 i arg1 harg1 arg2 harg2 arg3 harg3 arg4 harg4 arg5 harg5 arg6 arg7 arg8 d0 v2 h100 >>= fun _ =>
      k0_part10 i arg1 harg1 arg2 harg2 arg3 harg3 arg4 harg4 arg5 harg5 arg6 arg7 arg8 d0 v2 h100 >>= fun _ => k0_part11 i arg1 harg1 arg2 harg2 arg3 harg3 arg4 harg4 arg5 harg5 arg6 arg7 arg8 d0 v2 h100 >>= fun _ => k0_part12 i arg1 harg1 arg2 harg2 arg3 harg3 arg4 harg4 arg5 harg5 arg6 arg7 arg8 d0 v2 h100 >>= fun _ =>
      seqK (sigStep arg8.sem d0) [28, 29, 30, 31] (fun _ => act arg3 arg8)) = epi (F := F) arg3 arg4 harg4 arg5 harg5 arg6 arg8 d0 := by
  rw [epi_split, part7_seq, part8_seq, part9_seq, part10_seq, part11_seq, part12_seq]

theorem comp_ret {α β : Type} (v : α) (g : α → BP F β) (X : BP F β) (h : g v = X) :
    (comp i arg2 arg3 arg5 (fun _ => pure v) >>= g) = comp i arg2 arg3 arg5 (fun _ => X) := by
  rw [comp_bind, ← h]; rfl

theorem seq_comp {β : Type} (d0 : Dev nD) (v : BitVec 32) (g : BitVec 32 → BP F β) (X : BP F β) (h : g v = X) :
    (seqK (recvStep i arg4 harg4 arg5 harg5 arg7 d0) [31] (fun _ => comp i arg2 arg3 arg5 (fun _ => pure v)) >>= g) =
      (seqK (recvStep i arg4 harg4 arg5 harg5 arg7 d0) [31] pure >>= fun _ => comp i arg2 arg3 arg5 (fun _ => X)) := by
  rw [seqK_bind (recv_bind (F := F) i arg4 harg4 arg5 harg5 arg7 d0), seqK_bind (recv_bind (F := F) i arg4 harg4 arg5 harg5 arg7 d0),
    comp_ret i arg2 arg3 arg5 v g X h]
  rfl

/-- The printed body is the body over the loops. -/
theorem body_seq : cc0_body (F := F) i arg1 harg1 arg2 harg2 arg3 harg3 arg4 harg4 arg5 harg5 arg6 arg7 arg8 = main i arg1 arg2 arg3 arg4 harg4 arg5 harg5 arg6 arg7 arg8 := by
  rw [cc0_body_eq_skeleton]; unfold cc0_body_skel main
  rw [part13_seq]
  refine bind_congr (a := Prog.lift .deviceId) rfl (fun d0 => ?_)
  have hrest : ∀ g : (Σ' (arg0 : BitVec 32) (d0 : Dev nD) (v2 : BitVec 32), BitVec 32) → BP F Unit,
      g ⟨(BitVec.ofNat 32 (i 0).val), d0, rk d0, 1#32⟩ = (seqK (recvStep i arg4 harg4 arg5 harg5 arg7 d0) [5, 6, 7, 8, 9, 10] pure >>= fun _ => seqK (recvStep i arg4 harg4 arg5 harg5 arg7 d0) [11, 12, 13, 14, 15, 16, 17] pure >>= fun _ =>
        seqK (recvStep i arg4 harg4 arg5 harg5 arg7 d0) [18, 19, 20, 21, 22, 23, 24] pure >>= fun _ => seqK (recvStep i arg4 harg4 arg5 harg5 arg7 d0) [25, 26, 27, 28, 29, 30] pure >>= fun _ => seqK (recvStep i arg4 harg4 arg5 harg5 arg7 d0) [31] pure >>= fun _ =>
        comp i arg2 arg3 arg5 (fun _ => if h100 : k0_cond100 i = 1#1 then epi arg3 arg4 harg4 arg5 harg5 arg6 arg8 d0 else pure ⟨⟩)) →
      ((if h1 : k0_cond1 i = 1#1 then
        pro i arg1 arg4 harg4 arg5 harg5 arg6 arg7 d0 h1 (fun _ => seqK (recvStep i arg4 harg4 arg5 harg5 arg7 d0) [0, 1, 2, 3, 4] (fun _ => pure ⟨(BitVec.ofNat 32 (i 0).val), d0, rk d0, 1#32⟩))
      else seqK (recvStep i arg4 harg4 arg5 harg5 arg7 d0) [0, 1, 2, 3, 4] (fun _ => pure ⟨(BitVec.ofNat 32 (i 0).val), d0, rk d0, 1#32⟩)) >>= g) =
      (if h1 : k0_cond1 i = 1#1 then
        pro i arg1 arg4 harg4 arg5 harg5 arg6 arg7 d0 h1 (fun _ => rest i arg2 arg3 arg4 harg4 arg5 harg5 arg6 arg7 arg8 d0)
      else rest i arg2 arg3 arg4 harg4 arg5 harg5 arg6 arg7 arg8 d0) := by
    intro g hg
    have hr := seq_ret (recv_bind (F := F) i arg4 harg4 arg5 harg5 arg7 d0) [0, 1, 2, 3, 4] (⟨(BitVec.ofNat 32 (i 0).val), d0, rk d0, 1#32⟩ : Σ' (arg0 : BitVec 32) (d0 : Dev nD) (v2 : BitVec 32), BitVec 32) g
    rw [hg, ← rest_split] at hr
    by_cases h1 : k0_cond1 i = 1#1
    · rw [dif_pos h1, dif_pos h1, pro_bind, hr]
    · rw [dif_neg h1, dif_neg h1, hr]
  refine hrest _ ?_
  have hR := @seq_ret F _ _ (recv_bind (F := F) i arg4 harg4 arg5 harg5 arg7 d0)
  refine (congrArg (· >>= _) (part14_seq i arg1 harg1 arg2 harg2 arg3 harg3 arg4 harg4 arg5 harg5 arg6 arg7 arg8 d0)).trans ?_
  refine (hR _ _ _).trans (bind_congr rfl fun _ => ?_)
  refine (congrArg (· >>= _) (part15_seq i arg1 harg1 arg2 harg2 arg3 harg3 arg4 harg4 arg5 harg5 arg6 arg7 arg8 d0)).trans ?_
  refine (hR _ _ _).trans (bind_congr rfl fun _ => ?_)
  refine (congrArg (· >>= _) (part16_seq i arg1 harg1 arg2 harg2 arg3 harg3 arg4 harg4 arg5 harg5 arg6 arg7 arg8 d0)).trans ?_
  refine (hR _ _ _).trans (bind_congr rfl fun _ => ?_)
  refine (congrArg (· >>= _) (part17_seq i arg1 harg1 arg2 harg2 arg3 harg3 arg4 harg4 arg5 harg5 arg6 arg7 arg8 d0)).trans ?_
  refine (hR _ _ _).trans (bind_congr rfl fun _ => ?_)
  refine (congrArg (· >>= _) (part18_seq i arg1 harg1 arg2 harg2 arg3 harg3 arg4 harg4 arg5 harg5 arg6 arg7 arg8 d0)).trans ?_
  refine seq_comp i arg2 arg3 arg4 harg4 arg5 harg5 arg7 d0 _ _ _ ?_
  by_cases h100 : k0_cond100 i = 1#1
  · refine (dif_pos h100).trans (Eq.trans ?_ (dif_pos h100).symm)
    refine Eq.trans ?_ (epi_eq i arg1 harg1 arg2 harg2 arg3 harg3 arg4 harg4 arg5 harg5 arg6 arg7 arg8 d0 (rk d0) h100)
    iterate 6 refine bind_congr (F := F) rfl fun _ => ?_
    rfl
  · refine (dif_neg h100).trans ?_
    rw [dif_neg h100]

end Cert.KernelIdeal.Steps
-- ==== Proof.Sched.lean ====
/-
# The protocol of the exchange

Every device signals every other device's barrier semaphore, waits for all 31 signals, copies 31 row blocks of its
operand into the others' landing buffers, waits for the landed blocks group by group, and at the end signals the
others' exit semaphore and waits for theirs. This module states that protocol as a schedule of one round per
semaphore: who pays, how much, and what a payment hands over.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueLayout

@[expose] public section

set_option maxRecDepth 16384

noncomputable section

namespace Cert.KernelIdeal.Exchange

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join_exists)
open Idealize.ShloMosaic.Pipeline (Dat Cfg Window BodyObligation cellOf)

variable {F : FTy → Type} [FloatOps F]

/-! ## The resource algebra: the pipeline library's copy and the exchange's, whose duties are named by the paying device -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## What the body's conditions and offsets say -/

theorem neW_iff (d s : Fin 32) : neW d s = 1#1 ↔ s ≠ d := by revert d s; decide +kernel
theorem rk_toNat (d : Fin 32) : (rk d).toNat = d.val := by revert d; decide +kernel
theorem grpW_iff (i : grid0.Coords) (d s : Fin 32) : grpW i d s = 1#1 ↔ ((i 0).val = s.val / 4 ∧ s ≠ d) := by
  have h : ∀ (n : Fin 8) (d s : Fin 32), Scalar.cmpi .ne (Scalar.extui (Scalar.andi (Scalar.cmpi .eq (BitVec.ofNat 32 n.val) (BitVec.ofNat 32 (s.val / 4)))
      (Scalar.cmpi .ne (rk d) (BitVec.ofNat 32 s.val))) : BitVec 32) 0#32 = 1#1 ↔ (n.val = s.val / 4 ∧ s ≠ d) := by decide +kernel
  exact h (i 0) d s

/-! ## The buffers, the semaphores and their cells -/

abbrev bM : Memref sig .tc .vmem S8192x256 .bf16 := Memref.whole cc0_scratch0
abbrev rM : Memref sig .tc .vmem S32x256x256 .bf16 := Memref.whole cc0_scratch1

abbrev sendS (k : Fin 32) : DmaSems sig S_ := semI cc0_scratch2 k
abbrev recvS (k : Fin 32) : DmaSems sig S_ := semI cc0_scratch3 k
abbrev exitS : Sems sig S_ := cc0_scratch4

abbrev barCell (c : Dev nD) : GSem nD τ sig := ((c : Thread nD τ), .reg barS)
abbrev exitCell (c : Dev nD) : GSem nD τ sig := ((c : Thread nD τ), .reg exitS.sem)
abbrev sendCell (c : Dev nD) (k : Fin 32) : GSem nD τ sig := ((c : Thread nD τ), .dma (sendS k).sem)
abbrev recvCell (c : Dev nD) (k : Fin 32) : GSem nD τ sig := ((c : Thread nD τ), .dma (recvS k).sem)

/-- The kernel's own semaphores: the 32 of its sends, the 32 of its receipts, the exit's. -/
abbrev OI : Type := Fin 32 ⊕ (Fin 32 ⊕ Unit)
/-- All of the exchange's: those and the barrier's. -/
abbrev CI : Type := OI ⊕ Unit

def osem : OI → SemLoc sig
  | .inl k => .dma (sendS k).sem
  | .inr (.inl k) => .dma (recvS k).sem
  | .inr (.inr _) => .reg exitS.sem
def csem : CI → SemLoc sig
  | .inl o => osem o
  | .inr _ => .reg barS

abbrev iSend (k : Fin 32) : CI := .inl (.inl k)
abbrev iRecv (k : Fin 32) : CI := .inl (.inr (.inl k))
abbrev iExit : CI := .inl (.inr (.inr ()))
abbrev iBar : CI := .inr ()

abbrev kcell (ci : Dev nD × CI) : GSem nD τ sig := ((ci.1 : Thread nD τ), csem ci.2)

/-- Which of the exchange's semaphores a semaphore is. -/
def kind : SemLoc sig → Option CI
  | .reg q => if q = barS then some iBar else if q = exitS.sem then some iExit else none
  | .dma q => if h : 4 ≤ q.val ∧ q.val < 36 then some (iSend ⟨q.val - 4, by omega⟩)
      else if h : 36 ≤ q.val ∧ q.val < 68 then some (iRecv ⟨q.val - 36, by omega⟩) else none

theorem kind_csem : ∀ i : CI, kind (csem i) = some i := by
  have h1 : ∀ k : Fin 32, kind (.dma (sendS k).sem) = some (iSend k) := by decide +kernel
  have h2 : ∀ k : Fin 32, kind (.dma (recvS k).sem) = some (iRecv k) := by decide +kernel
  have h3 : kind (.reg exitS.sem) = some iExit := by decide +kernel
  have h4 : kind (.reg barS) = some iBar := by decide +kernel
  rintro ((k | (k | _)) | _)
  · exact h1 k
  · exact h2 k
  · exact h3
  · exact h4

theorem csem_injective : Function.Injective csem := fun a b h => by
  have := congrArg kind h
  rw [kind_csem, kind_csem] at this
  exact Option.some.inj this

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

theorem ownSemFacts : Pipeline.OwnSemFacts cfg0.spec osem where
  isScoped := by
    have h1 : ∀ k : Fin 32, (SemLoc.dma (sendS k).sem : SemLoc sig).isScoped .tc = true := by decide +kernel
    have h2 : ∀ k : Fin 32, (SemLoc.dma (recvS k).sem : SemLoc sig).isScoped .tc = true := by decide +kernel
    have h3 : (SemLoc.reg exitS.sem : SemLoc sig).isScoped .tc = true := by decide +kernel
    rintro (k | (k | _))
    · exact h1 k
    · exact h2 k
    · exact h3
  inj := fun a b h => Sum.inl_injective (csem_injective (a₁ := .inl a) (a₂ := .inl b) h)
  disj := by
    intro o w s h
    have hk : ∀ (w : Fin 3) (s : Fin (spec0 w).nbuf), kind (.dma ((spec0 w).sem s)) = none := by decide +kernel
    have := congrArg kind h
    rw [show kind (osem o) = some (.inl o) from kind_csem (.inl o)] at this
    rw [show kind (.dma ((cfg0.spec w).sem s)) = none from hk w s] at this
    exact Option.some_ne_none _ this

/-- The bytes' credit of one copied block. -/
abbrev Nc : ℕ := (rowsI bM 0).view.dmaCredit
theorem Nc_pos : 0 < Nc := View.dmaCredit_pos _ (by decide)
theorem credit_rows (k : Fin 32) : (rowsI bM k).view.dmaCredit = Nc := rfl
theorem credit_slot (k : Fin 32) : (slotI rM k).view.dmaCredit = Nc := rfl

/-! ## Contents -/

/-- Device `c`'s operand block, staged. -/
def xstg (c : Dev nD) : (cc0_stg0_0 : Ref sig .tc).ty.Contents (Elt F) :=
  (win0_0.blk (0 : Fin 8)).view.read (Elt F) ((s₀ m ρ).mem ((c : Thread nD τ).loc main_arg0))

/-- The copy of it that is sent from. -/
def xbf (c : Dev nD) : (cc0_scratch0 : Ref sig .tc).ty.Contents (Elt F) := k0_pay2 (F := F) (xstg m ρ c)

/-- Row `r`, column `q` of the block of rows that goes to device `c`. -/
def rowIx (c : Fin 32) (r q : Fin 256) : S8192x256.Idx :=
  ix2 (⟨256 * c.val + r.val, by have := c.isLt; have := r.isLt; omega⟩ : Fin 8192) q

/-- The landing buffer of device `c` with every block in it: slot `k` holds the rows of device `k`'s block that are `c`'s. -/
def landed (c : Dev nD) : (cc0_scratch1 : Ref sig .tc).ty.Contents (Elt F) := fun i : S32x256x256.Idx =>
  xbf m ρ (i 0 : Fin 32) (rowIx c (i 1 : Fin 256) (i 2 : Fin 256))

/-! ## What is held piece by piece -/

/-- Slot `k` of device `c`'s landing buffer, at contents `f`. -/
def slotPts (c : Dev nD) (k : Fin 32) (f : Buf (Elt F) ((c : Thread nD τ).loc cc0_scratch1)) : sProp 𝕄 :=
  (slotI rM k).view.loc (c : Thread nD τ) ↦[(slotI rM k).view.set]{fullShare} f
/-- The rows of device `c`'s copied block that go to device `k`, at contents `f`. -/
def rowsPts (c : Dev nD) (k : Fin 32) (f : Buf (Elt F) ((c : Thread nD τ).loc cc0_scratch0)) : sProp 𝕄 :=
  (rowsI bM k).view.loc (c : Thread nD τ) ↦[(rowsI bM k).view.set]{fullShare} f

omit [FloatOps F] in
instance slotPts_storable (c : Dev nD) (k : Fin 32) (f) : BI.Storable (upEmb : UEmb _ 𝕄) (slotPts (F := F) c k f) := by unfold slotPts; infer_instance
omit [FloatOps F] in
instance rowsPts_storable (c : Dev nD) (k : Fin 32) (f) : BI.Storable (upEmb : UEmb _ 𝕄) (rowsPts (F := F) c k f) := by unfold rowsPts; infer_instance

/-- The elements of slot `k`, and of the rows of peer `k`. -/
abbrev slotSet (k : Fin 32) : Finset S32x256x256.Idx := (slotI rM k).view.set
abbrev rowsSet (k : Fin 32) : Finset S8192x256.Idx := (rowsI bM k).view.set

omit [FloatOps F] in
theorem mem_slot (k : Fin 32) (i : S32x256x256.Idx) : Iff (i ∈ slotSet k) ((i 0).val = k.val) := by
  have e : slotSet k = (Rect.unit (s := S32x256x256) ![k.val, 0, 0] S1x256x256.size (slot_inb k)).set :=
    (View.set_reshape _ _).trans (View.set_slice_whole _ _)
  rw [e, Rect.mem_set_unit]
  have h1 : (i 1).val < 256 := (i 1).isLt
  have h2 : (i 2).val < 256 := (i 2).isLt
  constructor
  · intro h
    obtain ⟨ha, hb⟩ : k.val ≤ (i 0).val ∧ (i 0).val < k.val + 1 := h 0
    exact Nat.le_antisymm (Nat.le_of_lt_succ hb) ha
  · intro h a
    match a with
    | ⟨0, _⟩ => exact ⟨h.ge, by show (i 0).val < k.val + 1; omega⟩
    | ⟨1, _⟩ => exact ⟨Nat.zero_le _, by show (i 1).val < 0 + 256; omega⟩
    | ⟨2, _⟩ => exact ⟨Nat.zero_le _, by show (i 2).val < 0 + 256; omega⟩

omit [FloatOps F] in
theorem mem_rows (k : Fin 32) (i : S8192x256.Idx) : Iff (i ∈ rowsSet k) ((i 0).val / 256 = k.val) := by
  have e : rowsSet k = (Rect.unit (s := S8192x256) ![256 * k.val, 0] S256x256.size (rows_inb k)).set :=
    View.set_slice_whole _ _
  rw [e, Rect.mem_set_unit]
  have h1 : (i 1).val < 256 := (i 1).isLt
  constructor
  · intro h
    obtain ⟨ha, hb⟩ : 256 * k.val ≤ (i 0).val ∧ (i 0).val < 256 * k.val + 256 := h 0
    generalize (i 0).val = n at ha hb ⊢
    omega
  · intro h a
    match a with
    | ⟨0, _⟩ => exact ⟨by show 256 * k.val ≤ (i 0).val; omega, by show (i 0).val < 256 * k.val + 256; omega⟩
    | ⟨1, _⟩ => exact ⟨Nat.zero_le _, by show (i 1).val < 0 + 256; omega⟩

omit [FloatOps F] in
theorem slot_disj (a b : Fin 32) (h : a ≠ b) : Disjoint (slotSet a) (slotSet b) :=
  Finset.disjoint_left.mpr fun i ha hb => h (Fin.ext (((mem_slot a i).mp ha).symm.trans ((mem_slot b i).mp hb)))
omit [FloatOps F] in
theorem rows_disj (a b : Fin 32) (h : a ≠ b) : Disjoint (rowsSet a) (rowsSet b) :=
  Finset.disjoint_left.mpr fun i ha hb => h (Fin.ext (((mem_rows a i).mp ha).symm.trans ((mem_rows b i).mp hb)))
omit [FloatOps F] in
theorem slot_cover : Finset.univ.biUnion slotSet = Finset.univ :=
  Finset.eq_univ_iff_forall.mpr fun i => Finset.mem_biUnion.mpr ⟨⟨(i 0).val, (i 0).isLt⟩, Finset.mem_univ _, (mem_slot _ i).mpr rfl⟩
omit [FloatOps F] in
theorem rows_cover : Finset.univ.biUnion rowsSet = Finset.univ :=
  Finset.eq_univ_iff_forall.mpr fun i => Finset.mem_biUnion.mpr ⟨⟨(i 0).val / 256, by
    have h : (i 0).val < 8192 := (i 0).isLt
    omega⟩, Finset.mem_univ _, (mem_rows _ i).mpr rfl⟩

omit [FloatOps F] in
/-- The landing buffer held whole is held slot by slot. -/
theorem slots_split (c : Dev nD) (f : Buf (Elt F) ((c : Thread nD τ).loc cc0_scratch1)) :
    (((c : Thread nD τ).loc cc0_scratch1) ↦{fullShare} f : sProp 𝕄) = bigSep Finset.univ fun k => slotPts c k f :=
  pointsTo_blocks (ℓ := (c : Thread nD τ).loc cc0_scratch1) slotSet slot_disj slot_cover f
omit [FloatOps F] in
/-- The copied block held whole is held peer by peer. -/
theorem rows_split (c : Dev nD) (f : Buf (Elt F) ((c : Thread nD τ).loc cc0_scratch0)) :
    (((c : Thread nD τ).loc cc0_scratch0) ↦{fullShare} f : sProp 𝕄) = bigSep Finset.univ fun k => rowsPts c k f :=
  pointsTo_blocks (ℓ := (c : Thread nD τ).loc cc0_scratch0) rowsSet rows_disj rows_cover f

/-! ## What a copy leaves -/

omit [FloatOps F] in
theorem emb_rows (k : Fin 32) (x y : Fin 256) : (rowsI bM k).view.emb (ix2 x y) = (rowIx k x y : S8192x256.Idx) := by
  funext a
  match a with
  | ⟨0, _⟩ => exact Fin.ext (show 256 * k.val + 1 * x.val = 256 * k.val + x.val by rw [Nat.one_mul])
  | ⟨1, _⟩ => exact Fin.ext (show 0 + 1 * y.val = y.val by omega)

omit [FloatOps F] in
theorem emb_unit_slot (k : Fin 32) (h) (x y : Fin 256) :
    (Rect.unit (s := S32x256x256) ![k.val, 0, 0] S1x256x256.size h).emb (ix3 (⟨0, Nat.one_pos⟩ : Fin 1) x y) = (ix3 k x y : S32x256x256.Idx) := by
  funext a
  match a with
  | ⟨0, _⟩ => exact Fin.ext (show k.val + 1 * 0 = k.val by omega)
  | ⟨1, _⟩ => exact Fin.ext (show 0 + 1 * x.val = x.val by omega)
  | ⟨2, _⟩ => exact Fin.ext (show 0 + 1 * y.val = y.val by omega)

omit [FloatOps F] in
theorem emb_slot (k : Fin 32) (x y : Fin 256) : (slotI rM k).view.emb (ix2 x y) = (ix3 k x y : S32x256x256.Idx) := by
  show (Rect.unit (s := S32x256x256) ![k.val, 0, 0] S1x256x256.size (slot_inb k)).emb (Shape.reshapeEquiv _ (ix2 x y)) = _
  rw [reshapeEquiv_ix2_1ab]
  exact emb_unit_slot k _ x y

/-- Device `c`'s copy to device `s` leaves in `s`'s slot `c` what the landed buffer holds there. -/
theorem landed_write (c s : Fin 32) (fd : (cc0_scratch1 : Ref sig .tc).ty.Contents (Elt F)) : ∀ i ∈ slotSet c,
    (slotI rM c).view.write (Elt F) fd ((rowsI bM s).view.read (Elt F) (xbf m ρ c)) Finset.univ i = landed m ρ s i := by
  intro i hi
  obtain ⟨j, -, rfl⟩ := Finset.mem_map.mp hi
  rw [View.write_emb_of_mem _ _ (Finset.mem_univ j), View.read_apply]
  obtain ⟨x, y, rfl⟩ : ∃ x y : Fin 256, j = ix2 x y := ⟨j 0, j 1, eq_ix2 j⟩
  rw [emb_rows, emb_slot]
  rfl

/-- A block with a leading unit axis put back reads the block. -/
theorem unit_block (w : Vec F S256x256 .bf16) (x y : Fin 256) :
    shapeCast S1x256x256 w shapeCasts_S256x256_S1x256x256 (ix3 (⟨0, Nat.one_pos⟩ : Fin 1) x y) = w (ix2 x y) := by
  show w ((Shape.reshapeEquiv _) (ix3 (⟨0, Nat.one_pos⟩ : Fin 1) x y)) = _
  congr 1
  rw [← reshapeEquiv_ix2_1ab (by decide) x y, Shape.reshapeEquiv_reshapeEquiv, Shape.reshapeEquiv_self]

/-- The rectangle of one slot. -/
abbrev slotRect (k : Fin 32) : Rect S32x256x256 := Rect.unit (s := S32x256x256) ![k.val, 0, 0] S1x256x256.size (slot_inb k)

omit [FloatOps F] in
/-- A store of a block at slot `k` writes there what the block holds. -/
theorem slot_store (k : Fin 32) (fd g : (cc0_scratch1 : Ref sig .tc).ty.Contents (Elt F)) (w : S1x256x256.Idx → Elt F .bf16)
    (hg : ∀ x y : Fin 256, g (ix3 k x y : S32x256x256.Idx) = w (ix3 (⟨0, Nat.one_pos⟩ : Fin 1) x y)) : ∀ i ∈ slotSet k,
    (rM.view.slice (slotRect k)).write (Elt F) fd w Finset.univ i = g i := by
  intro i hi
  obtain ⟨j, -, rfl⟩ := Finset.mem_map.mp hi
  obtain ⟨x, y, rfl⟩ : ∃ x y : Fin 256, j = ix2 x y := ⟨j 0, j 1, eq_ix2 j⟩
  rw [emb_slot, hg, ← emb_unit_slot k (slot_inb k) x y]
  exact View.write_emb_of_mem (v := rM.view.slice (slotRect k)) (Val := Elt F) fd w (M := Finset.univ)
    (x := ix3 (⟨0, Nat.one_pos⟩ : Fin 1) x y) (Finset.mem_univ _)

/-! ## The schedule -/

/-- Who pays the semaphores of device `c`. -/
def dutySet (c : Fin 32) : Option CI → Finset (Fin 32)
  | some (.inr _) => Finset.univ.erase c
  | some (.inl (.inr (.inr _))) => Finset.univ.erase c
  | some (.inl (.inl k)) => if k = c then ∅ else {c}
  | some (.inl (.inr (.inl k))) => if k = c then ∅ else {k}
  | none => ∅

/-- How much a payment is: one unit for a signal, a block's bytes for a copy. -/
def amt : Option CI → ℕ
  | some (.inr _) => 1
  | some (.inl (.inr (.inr _))) => 1
  | _ => Nc

theorem amt_pos (o : Option CI) : 0 < amt o := by
  rcases o with _ | ((k | (k | _)) | _)
  · exact Nc_pos
  · exact Nc_pos
  · exact Nc_pos
  · exact Nat.one_pos
  · exact Nat.one_pos

/-- What device `d`'s payment hands device `c`: at the barrier, `d`'s slot for `c`'s rows; at a send's end, the rows sent;
    at a receipt, the slot with the rows landed; at the exit, nothing. -/
def pay (c d : Fin 32) : Option CI → sProp 𝕄
  | some (.inr _) => iprop(∃ f, slotPts d c f)
  | some (.inl (.inl k)) => rowsPts c k (xbf m ρ c)
  | some (.inl (.inr (.inl k))) => slotPts c k (landed m ρ c)
  | _ => iprop(emp)

instance pay_storable (c d : Fin 32) (o : Option CI) : BI.Storable (upEmb : UEmb _ 𝕄) (pay (F := F) m ρ c d o) := by
  rcases o with _ | ((k | (k | _)) | _) <;> (unfold pay; infer_instance)

/-- One round, round 0, at each of the exchange's semaphores. -/
def sched : Rounds.Schedule (GSem nD τ sig) (Fin 32) 𝕄 where
  duties g r := if r = 0 ∧ g.1.2 = .tc then dutySet g.1.1 (kind g.2) else ∅
  unitless _ := False
  amount g _ _ := amt (kind g.2)
  payload g _ d := pay m ρ g.1.1 d (kind g.2)
  amount_pos g _ _ _ := amt_pos _

instance sched_payload_storable (g : GSem nD τ sig) (r : ℕ) (d : Fin 32) :
    BI.Storable (upEmb : UEmb _ 𝕄) ((sched (F := F) m ρ).payload g r d) := pay_storable m ρ _ _ _

theorem duties_at (c : Dev nD) (i : CI) : (sched (F := F) m ρ).duties (kcell (c, i)) 0 = dutySet c (some i) := by
  show (if (0 : ℕ) = 0 ∧ (c : Thread nD τ).2 = .tc then dutySet c (kind (csem i)) else ∅) = _
  rw [if_pos ⟨rfl, rfl⟩, kind_csem]
theorem duties_later (g : GSem nD τ sig) : ∀ r, 1 ≤ r → (sched (F := F) m ρ).duties g r = ∅ :=
  fun r hr => if_neg fun h => by omega
theorem amount_at (c : Dev nD) (i : CI) (d : Fin 32) : (sched (F := F) m ρ).amount (kcell (c, i)) 0 d = amt (some i) := by
  show amt (kind (csem i)) = _; rw [kind_csem]
theorem payload_at (c : Dev nD) (i : CI) (d : Fin 32) : (sched (F := F) m ρ).payload (kcell (c, i)) 0 d = pay m ρ c d (some i) := by
  show pay m ρ c d (kind (csem i)) = _; rw [kind_csem]

/-- What a semaphore's round sums to. -/
theorem expect_at (c : Dev nD) (i : CI) : (sched (F := F) m ρ).expect (kcell (c, i)) 0 = (dutySet c (some i)).card * amt (some i) := by
  unfold Schedule.expect Schedule.amountOf
  rw [duties_at, Finset.sum_congr rfl fun d _ => amount_at m ρ c i d, Finset.sum_const, smul_eq_mul]
theorem rest_at (c : Dev nD) (i : CI) :
    bigSep ((sched (F := F) m ρ).duties (kcell (c, i)) 0 \ ∅) (fun d => (sched (F := F) m ρ).payload (kcell (c, i)) 0 d)
      = bigSep (dutySet c (some i)) fun d => pay m ρ c d (some i) := by
  rw [Finset.sdiff_empty, duties_at]; exact bigSep_congr fun d _ => payload_at m ρ c i d

/-! ## What each device owes; the levels -/

/-- The sum of a list's amounts owed, a device's own left out. -/
def owedL (c : Fin 32) (f : Fin 32 → CellTallies nD τ sig Unit) : List (Fin 32) → CellTallies nD τ sig Unit
  | [] => 0
  | x :: xs => owedL c f xs + (if x = c then 0 else f x)

/-- The exit signals to the listed devices; -/
def exitO (c : Fin 32) : List (Fin 32) → CellTallies nD τ sig Unit := owedL c fun d => tallyAt (exitCell d) () 1
/-- the copies into their landing buffers; -/
def recvO (c : Fin 32) : List (Fin 32) → CellTallies nD τ sig Unit := owedL c fun d => tallyAt (recvCell d c) () Nc
/-- the barrier signals. -/
def barO (c : Fin 32) : List (Fin 32) → CellTallies nD τ sig Unit := owedL c fun d => tallyAt (barCell d) () 1

/-- Everything a device owes at launch. -/
def O₀ (c : Dev nD) : CellTallies nD τ sig Unit := (exitO c peers + recvO c peers) + barO c peers

def L (g : GSem nD τ sig) : Finset Unit := if g.1.2 = .tc then {()} else ∅
/-- Barriers at 1, receipts at 2, exits at 3, everything else at 0. -/
def lvK : Option CI → ℕ
  | some (.inr _) => 1
  | some (.inl (.inr (.inr _))) => 3
  | some (.inl (.inr (.inl _))) => 2
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CI) : lv (kcell (c, i)) () = lvK (some i) := by
  show lvK (kind (csem i)) = _; rw [kind_csem]

/-- "Owes only above level `n`, and only TensorCores' cells." -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_mono {n n' : ℕ} (hn : n' ≤ n) {O : CellTallies nD τ sig Unit} (h : Above n O) : Above n' O := fun g u hg =>
  ⟨(h g u hg).1, lt_of_le_of_lt hn (h g u hg).2⟩
theorem above_tally {n : ℕ} (c : Dev nD) (i : CI) (a : ℕ) (h : n < lvK (some i)) : Above n (tallyAt (kcell (c, i)) () a) := fun g u hg => by
  rw [tallyAt_apply] at hg
  by_cases hh : g = kcell (c, i) ∧ u = ()
  · obtain ⟨rfl, rfl⟩ := hh
    exact ⟨by rw [L_tc]; exact Finset.mem_singleton_self _, by rw [lv_at]; exact h⟩
  · rw [if_neg hh] at hg; exact absurd hg (Nat.lt_irrefl 0)
theorem above_owedL {n : ℕ} (c : Fin 32) {f : Fin 32 → CellTallies nD τ sig Unit} (h : ∀ d, Above n (f d)) : ∀ xs, Above n (owedL c f xs)
  | [] => above_zero n
  | x :: xs => above_add (above_owedL c h xs) (by split; exacts [above_zero n, h x])
theorem above_exit (c : Fin 32) (xs : List (Fin 32)) : Above 2 (exitO c xs) := above_owedL c (fun d => above_tally d iExit 1 (by decide)) xs
theorem above_recv (c : Fin 32) (xs : List (Fin 32)) : Above 1 (recvO c xs) := above_owedL c (fun d => above_tally d (iRecv c) Nc (by show 1 < 2; decide)) xs
theorem above_bar (c : Fin 32) (xs : List (Fin 32)) : Above 0 (barO c xs) := above_owedL c (fun d => above_tally d iBar 1 (by decide)) xs
theorem above_O₀ (c : Dev nD) : Above 0 (O₀ c) :=
  above_add (above_add (above_mono (by decide) (above_exit c _)) (above_mono (by decide) (above_recv c _))) (above_bar c _)

omit [FloatOps F] in
/-- A wait on a semaphore at a level below everything owed. -/
theorem mayWait_above (c : Dev nD) (sm : SemLoc sig) (n : ℕ) (hn : lvK (kind sm) ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.KernelIdeal.Exchange

end
-- ==== Proof.Loops.lean ====
/-
# One step for each peer

The body's loops over the 32 devices, proved one step at a time: a rule that runs a step for every peer of a list, and
the step of each loop — the barrier's and the exit's signals, the copies, the waits for the landed blocks and the waits
for the ends of the device's own copies.
-/
module

public import proofs.«01_k».proof.Proof.Sched
public import Idealize.ShloMosaic.Lib.Pipeline.BigSepL

@[expose] public section

set_option maxRecDepth 16384

noncomputable section

namespace Cert.KernelIdeal.Exchange

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a fragment of device `c`'s body. -/
abbrev WP (c : Dev nD) {α : Type} (p : BP F α) (Kt : α → sProp 𝕄) : sProp 𝕄 :=
  wp frame (wpE (defs₀ (F := F)) 𝒱₀ (c : Thread nD τ) none) Set.univ p Kt

/-! ## What every device knows throughout -/

/-- The invariants of all the exchange's semaphores, under the names `K`, and that each is at its first round. -/
def records (K : Dev nD × CI → ℕ) : sProp 𝕄 :=
  iprop((bigSep Finset.univ fun ci : Dev nD × CI => cellInv ER (sched m ρ) (K ci) (kcell ci))
    ∗ bigSep Finset.univ fun ci : Dev nD × CI => reached ER (kcell ci) 0)

instance records_persistent (K : Dev nD × CI → ℕ) : BI.Persistent (records m ρ K) := by unfold records; infer_instance

theorem inv_at (K : Dev nD × CI → ℕ) (c : Dev nD) (i : CI) : records m ρ K ⊢ cellInv ER (sched m ρ) (K (c, i)) (kcell (c, i)) :=
  sep_elim_left.trans (bigSep_elim (Φ := fun ci : Dev nD × CI => (cellInv ER (sched m ρ) (K ci) (kcell ci) : sProp 𝕄)) (Finset.mem_univ (c, i)))
theorem reached_at (K : Dev nD × CI → ℕ) (c : Dev nD) (i : CI) : records m ρ K ⊢ reached ER (kcell (c, i)) 0 :=
  sep_elim_right.trans (bigSep_elim (Φ := fun ci : Dev nD × CI => (reached ER (kcell ci) 0 : sProp 𝕄)) (Finset.mem_univ (c, i)))

/-- Those and the levels. -/
def Know (K : Dev nD × CI → ℕ) : sProp 𝕄 := iprop(records m ρ K ∗ levAts L lv)

instance know_persistent (K : Dev nD × CI → ℕ) : BI.Persistent (Know m ρ K) := by unfold Know; infer_instance

/-- "Owes `O`", whatever has been waited for. -/
def owing (c : Dev nD) (O : CellTallies nD τ sig Unit) : sProp 𝕄 := iprop(∃ W, owes (c : Thread nD τ) O W)

/-! ## Running a step for every peer of a list -/

/-- From each listed peer's share `P` to its share `Q`, the part that goes along passing from `R xs` to `R []`. -/
theorem seq_rule {α : Type} (c : Dev nD) (f : Fin 32 → (Unit → BP F α) → BP F α) (H : sProp 𝕄) [BI.Persistent H] (P Q : Fin 32 → sProp 𝕄)
    (R : List (Fin 32) → sProp 𝕄) (Kt : α → sProp 𝕄)
    (hstep : ∀ x xs k, iprop(H ∗ P x ∗ R (x :: xs) ∗ ((Q x ∗ R xs) -∗ WP c (k ⟨⟩) Kt)) ⊢ WP c (f x k) Kt) :
    ∀ xs k, iprop(H ∗ bigSepL xs P ∗ R xs ∗ ((bigSepL xs Q ∗ R []) -∗ WP c (k ⟨⟩) Kt)) ⊢ WP c (seqK f xs k) Kt := by
  intro xs
  induction xs with
  | nil =>
    intro k
    rw [show bigSepL [] P = iprop(emp) from rfl, show bigSepL [] Q = iprop(emp) from rfl]
    simp only [seqK]
    iintro ⟨#HH, -, HR, Hk⟩
    iapply Hk
    isplitr [HR]; · iempintro
    iexact HR
  | cons x xs ih =>
    intro k
    simp only [seqK, bigSepL_cons']
    iintro ⟨#HH, ⟨HP, HPs⟩, HR, Hk⟩
    iapply (hstep x xs _)
    isplitr; · iexact HH
    isplitl [HP]; · iexact HP
    isplitl [HR]; · iexact HR
    iintro ⟨HQ, HR⟩
    iapply (ih k)
    isplitr; · iexact HH
    isplitl [HPs]; · iexact HPs
    isplitl [HR]; · iexact HR
    iintro ⟨HQs, HR⟩
    iapply Hk
    isplitr [HR]
    · isplitl [HQ] <;> iassumption
    iexact HR

/-! ## The signals -/

/-- What device `c` signals peer `s` with: its token, and what the signal hands over. -/
def sigP (c : Dev nD) (i : CI) (s : Fin 32) : sProp 𝕄 :=
  if s = c then iprop(emp) else iprop(dutyTok ER (kcell (s, i)) 0 c ∗ pay m ρ s c (some i))

/-- One signal of the device at a cell of the exchange, by its index. -/
theorem wp_sig (K : Dev nD × CI → ℕ) (c s : Dev nD) (i : CI) (sm : Sem sig) (hi : csem i = .reg sm) (ha : amt (some i) = 1)
    (hd : c ∈ dutySet s (some i)) {α : Type} {k : PUnit → BP F α} {Q : α → sProp 𝕄} (O : CellTallies nD τ sig Unit) (W : Waits sig Unit) :
    iprop(cellInv ER (sched m ρ) (K (s, i)) (kcell (s, i)) ∗ owes (c : Thread nD τ) (O + tallyAt (kcell (s, i)) () 1) W
        ∗ dutyTok ER (kcell (s, i)) 0 c ∗ pay m ρ s c (some i) ∗ reached ER (kcell (s, i)) 0)
      ⊢ iprop((owes (c : Thread nD τ) O W -∗ WP c (k ⟨⟩) Q) -∗ WP c (.op (.semSignal (s : Thread nD τ) sm 1) k) Q) := by
  have e : ((s : Thread nD τ), SemLoc.reg sm) = kcell (s, i) := by rw [← hi]
  have h := Rounds.wp_signal (k := k) (Q := Q) 𝒱₀ ER (sched m ρ) (c : Thread nD τ) none (dst := (s : Thread nD τ)) (sem := sm) (r := 0) (κ := K (s, i)) (d := c) (k' := 1)
    (by rw [e, duties_at]; exact hd) (by rw [e, amount_at, ha]) () (O₀ := O + tallyAt (kcell (s, i)) () 1) O (by rw [e]) (W := W) (Es := Set.univ) (defs := defs₀ (F := F)) (Γ := .empty)
  rw [e, payload_at] at h
  exact h

theorem sig_step (K : Dev nD × CI → ℕ) (c : Dev nD) (i : CI) (sm : Sem sig) (hi : csem i = .reg sm) (ha : amt (some i) = 1)
    (hd : ∀ s, s ≠ c → c ∈ dutySet s (some i)) (O : CellTallies nD τ sig Unit) {α : Type} (Kt : α → sProp 𝕄) (x : Fin 32) (xs : List (Fin 32)) (k : Unit → BP F α) :
    iprop(Know m ρ K ∗ sigP m ρ c i x ∗ owing c (O + owedL c (fun d => tallyAt (kcell (d, i)) () 1) (x :: xs))
        ∗ ((emp ∗ owing c (O + owedL c (fun d => tallyAt (kcell (d, i)) () 1) xs)) -∗ WP c (k ⟨⟩) Kt))
      ⊢ WP c (sigStep sm c x k) Kt := by
  unfold sigStep sigP owing
  simp only [owedL]
  by_cases h : x = c
  · rw [if_pos h, if_pos h]
    rw [dif_neg (fun h' => (neW_iff c x).mp h' h)]
    simp only [Prog.pure_eq_ret, Prog.bind_ret, add_zero]
    iintro ⟨-, -, Ho, Hk⟩
    iapply Hk
    isplitr; · iempintro
    iexact Ho
  · rw [if_neg h, if_neg h]
    rw [dif_pos ((neW_iff c x).mpr h), ← add_assoc]
    simp only [semSignalWord, Prog.lift, Prog.bind_op, Prog.bind_ret, Prog.pure_eq_ret]
    unfold Know
    iintro ⟨⟨#HR, #Hl⟩, ⟨Ht, Hp⟩, ⟨%W, Ho⟩, Hk⟩
    iapply (wp_sig m ρ K c x i sm hi ha (hd x h) (O + owedL c (fun d => tallyAt (kcell (d, i)) () 1) xs) W) $$ [Ho Ht Hp]
    · isplitr; · iapply (inv_at m ρ K x i); iexact HR
      isplitl [Ho]; · iexact Ho
      isplitl [Ht]; · iexact Ht
      isplitl [Hp]; · iexact Hp
      iapply (reached_at m ρ K x i); iexact HR
    iintro Ho
    iapply Hk
    isplitr; · iempintro
    iexists W; iexact Ho

/-! ## The copies -/

omit [FloatOps F] in
theorem slotRk_eq (c : Dev nD) : slotRk rM c = slotI rM c := by
  have h : ∀ (n : ℕ) (hn : ∀ a, (![n, 0, 0] : Fin 3 → Nat) a + S1x256x256.size a ≤ S32x256x256.size a), n = c.val →
      (rM.slice (Rect.unit (s := S32x256x256) ![n, 0, 0] S1x256x256.size hn) (fun _ => rfl)).squeeze S256x256 squeezes_S1x256x256_S256x256 = slotI rM c := by
    intro n hn e; subst e; rfl
  exact h _ _ (rk_toNat c)
omit [FloatOps F] in
theorem semRk_eq (c : Dev nD) : semRk cc0_scratch3 c = recvS c := by
  have h : ∀ (n : ℕ) (hn : ∀ a, (![n] : Fin 1 → Nat) a + S1.size a ≤ S32.size a), n = c.val →
      ((cc0_scratch3 : DmaSems sig S32).slice (Rect.unit (s := S32) ![n] S1.size hn)).squeeze S_ squeezes_S1_S_ = recvS c := by
    intro n hn e; subst e; rfl
  exact h _ _ (rk_toNat c)

/-- What device `c` copies to peer `s` with: the rows, the peer's slot, the tokens of the copy's two ends. -/
def sendP (c s : Dev nD) : sProp 𝕄 :=
  if s = c then iprop(emp) else iprop(rowsPts c s (xbf m ρ c) ∗ (∃ f, slotPts s c f)
    ∗ dutyTok ER (kcell (c, iSend s)) 0 c ∗ dutyTok ER (kcell (s, iRecv c)) 0 c)
/-- While a copy is in flight: the credit of its end. -/
def sendQ (c s : Dev nD) : sProp 𝕄 :=
  if s = c then iprop(emp) else iprop(cred (tallyAt (kcell (c, iSend s)) () Nc))

/-- One copy of the device into a peer's slot. -/
theorem wp_copy (K : Dev nD × CI → ℕ) (c s : Dev nD) (hcs : s ≠ c) {dst : Memref sig .tc .vmem S256x256 .bf16} (hdst : dst = slotI rM c)
    {rs : DmaSem sig} (hrs : rs = (recvS c).sem) {hsc : dst.view.ref.isScScratch = false} {hws : (rowsI bM s).view.WordExact} {hwd : dst.view.WordExact}
    {hsem : DmaTarget.Typed .vmem (.dma rs) (.remote (Dev.tc s : Thread nD τ) dst (.dma (sendS s).sem) hsc)}
    {α : Type} {k : PUnit → BP F α} {Q : α → sProp 𝕄} (fd : Buf (Elt F) ((s : Thread nD τ).loc cc0_scratch1)) (O : CellTallies nD τ sig Unit) (W : Waits sig Unit) :
    iprop(cellInv ER (sched m ρ) (K (c, iSend s)) (kcell (c, iSend s)) ∗ cellInv ER (sched m ρ) (K (s, iRecv c)) (kcell (s, iRecv c))
        ∗ rowsPts c s (xbf m ρ c) ∗ slotPts s c fd ∗ owes (c : Thread nD τ) (O + tallyAt (kcell (s, iRecv c)) () Nc) W
        ∗ dutyTok ER (kcell (c, iSend s)) 0 c ∗ reached ER (kcell (c, iSend s)) 0
        ∗ dutyTok ER (kcell (s, iRecv c)) 0 c ∗ reached ER (kcell (s, iRecv c)) 0)
      ⊢ iprop(((cred (tallyAt (kcell (c, iSend s)) () Nc) ∗ owes (c : Thread nD τ) O W) -∗ WP c (k ⟨⟩) Q)
          -∗ WP c (.op (.enqueueDma (rowsI bM s) (.remote (Dev.tc s : Thread nD τ) dst (.dma (sendS s).sem) hsc) (.dma rs) hws hwd hsem) k) Q) := by
  subst hdst hrs
  have d1 : c ∈ (sched m ρ).duties (kcell (c, iSend s)) 0 := by
    rw [duties_at]; show c ∈ (if s = c then ∅ else {c}); rw [if_neg hcs]; exact Finset.mem_singleton_self _
  have d2 : c ∈ (sched m ρ).duties (kcell (s, iRecv c)) 0 := by
    rw [duties_at]; show c ∈ (if c = s then ∅ else {c}); rw [if_neg (Ne.symm hcs)]; exact Finset.mem_singleton_self _
  have a1 : (sched (F := F) m ρ).amount (kcell (c, iSend s)) 0 c = Nc := amount_at m ρ c (iSend s) c
  have a2 : (sched (F := F) m ρ).amount (kcell (s, iRecv c)) 0 c = Nc := amount_at m ρ s (iRecv c) c
  have p1 : rowsPts c s (xbf m ρ c) ⊢ (sched (F := F) m ρ).payload (kcell (c, iSend s)) 0 c := Entails.of_eq (payload_at m ρ c (iSend s) c).symm
  have e2 : (((slotI rM c).view.loc (s : Thread nD τ) ↦[(slotI rM c).view.set]{fullShare}
      ((slotI rM c).view.write (Elt F) fd ((rowsI bM s).view.read (Elt F) (xbf m ρ c)) Finset.univ)) : sProp 𝕄) = slotPts s c (landed m ρ s) :=
    pointsTo_congr (landed_write m ρ c s fd)
  have p2 := Entails.of_eq (e2.trans (payload_at m ρ s (iRecv c) c).symm)
  have hN : (slotI rM c).view.amount (SemLoc.dma (recvS c).sem) = Nc := credit_slot c
  have h := Rounds.wp_send_pointsTo (k := k) (Q := Q) (hsc := hsc) (hsrc := hws) (hdst := hwd) (hsem := hsem) (defs := defs₀ (F := F)) (Γ := .empty) (Es := Set.univ) 𝒱₀ ER (sched m ρ) (c : Thread nD τ) none (κ₁ := K (c, iSend s)) (κ₂ := K (s, iRecv c))
    (r₁ := 0) (r₂ := 0) (d₁ := c) (d₂ := c) (fs := xbf m ρ c) (fd := fd) d1 d2 () () Nc hN a1 a2 O rfl (W := W) p1 p2
  rw [show kcell (c, iSend s) = sendCell c s from rfl, show kcell (s, iRecv c) = recvCell s c from rfl]
  unfold rowsPts slotPts
  exact h

theorem send_step (K : Dev nD × CI → ℕ) (c : Dev nD) (O : CellTallies nD τ sig Unit) {α : Type} (Kt : α → sProp 𝕄) (x : Fin 32) (xs : List (Fin 32)) (k : Unit → BP F α) :
    iprop(Know m ρ K ∗ sendP m ρ c x ∗ owing c (O + recvO c (x :: xs)) ∗ ((sendQ c x ∗ owing c (O + recvO c xs)) -∗ WP c (k ⟨⟩) Kt))
      ⊢ WP c (sendStep bM (Memref.isWhole_whole _) rM (Memref.isWhole_whole _) cc0_scratch2 cc0_scratch3 c x k) Kt := by
  unfold sendStep sendP sendQ owing recvO
  simp only [owedL]
  by_cases h : x = c
  · rw [if_pos h, if_pos h, if_pos h]
    rw [dif_neg (fun h' => (neW_iff c x).mp h' h)]
    simp only [Prog.pure_eq_ret, Prog.bind_ret, add_zero]
    iintro ⟨-, -, Ho, Hk⟩
    iapply Hk
    isplitr; · iempintro
    iexact Ho
  · rw [if_neg h, if_neg h, if_neg h]
    rw [dif_pos ((neW_iff c x).mpr h), ← add_assoc]
    simp only [Prog.lift, Prog.bind_op, Prog.bind_ret, Prog.pure_eq_ret]
    unfold Know
    iintro ⟨⟨#HR, #Hl⟩, ⟨Hr, ⟨%f, Hs⟩, Ht1, Ht2⟩, ⟨%W, Ho⟩, Hk⟩
    iapply (wp_copy m ρ K c x h (slotRk_eq c) (congrArg SemArray.sem (semRk_eq c)) f (O + owedL c (fun d => tallyAt (recvCell d c) () Nc) xs) W) $$ [Ho Hr Hs Ht1 Ht2]
    · isplitr; · iapply (inv_at m ρ K c (iSend x)); iexact HR
      isplitr; · iapply (inv_at m ρ K x (iRecv c)); iexact HR
      isplitl [Hr]; · iexact Hr
      isplitl [Hs]; · iexact Hs
      isplitl [Ho]; · iexact Ho
      isplitl [Ht1]; · iexact Ht1
      isplitr; · iapply (reached_at m ρ K c (iSend x)); iexact HR
      isplitl [Ht2]; · iexact Ht2
      iapply (reached_at m ρ K x (iRecv c)); iexact HR
    iintro ⟨Hc, Ho⟩
    iapply Hk
    isplitl [Hc]; · iexact Hc
    iexists W; iexact Ho

/-! ## The waits -/

/-- A wait for all of a round of one of the device's own copies' semaphores, the semaphore closed after it. -/
theorem wp_await (K : Dev nD × CI → ℕ) (c : Dev nD) (i : CI) {w : TpuEff nD τ sig (Elt F) Λ₀ .tc PUnit} {k' : ℕ}
    (hw : ∀ Q : PUnit → sProp 𝕄, wpE (defs₀ (F := F)) 𝒱₀ (c : Thread nD τ) none Set.univ w Q = waitSpec (c : Thread nD τ) Set.univ (csem i) k' Q)
    (hk : k' = (dutySet c (some i)).card * amt (some i)) (O : CellTallies nD τ sig Unit)
    (hO : Above (lvK (some i)) O) {α : Type} {k : PUnit → BP F α} {Q : α → sProp 𝕄} :
    iprop(Know m ρ K ∗ cred (tallyAt (kcell (c, i)) () k') ∗ owing c O ∗ atPos ER (kcell (c, i)) 0 ∅ 0)
      ⊢ iprop(((owing c O ∗ semVal (kcell (c, i)) 0 ∗ bigSep (dutySet c (some i)) fun d => pay m ρ c d (some i)) -∗ WP c (k ⟨⟩) Q) -∗ WP c (.op w k) Q) := by
  unfold Know owing
  iintro ⟨⟨#HR, #Hl⟩, Hc, ⟨%W, Ho⟩, Ha⟩ Hk
  iapply (Rounds.wp_wait_rest_token 𝒱₀ ER (sched m ρ) (c : Thread nD τ) none (κ := K (c, i)) hw (Set.mem_univ _) () (O := O) (W := W) (R := 0) (m := 0) (T := ∅)
      (by rw [Nat.zero_add, hk]; exact (expect_at m ρ c i).symm)) $$ [Hc Ho Ha]
  · isplitr; · iapply (inv_at m ρ K c i); iexact HR
    isplitl [Hc]; · iexact Hc
    isplitl [Ho]; · iexact Ho
    isplitr
    · iapply (mayWait_above c (csem i) (lvK (some i)) (by rw [kind_csem]) O hO); iexact Hl
    iexact Ha
  iintro ⟨Ho, Ha, -, Hp⟩
  imod (Rounds.cell_close ER (sched m ρ) (Set.mem_univ (K (c, i))) (fun h => h) (R := 0 + 1) (duties_later m ρ (kcell (c, i)))) $$ [Ha] with Hz
  · isplitr; · iapply (inv_at m ρ K c i); iexact HR
    iexact Ha
  iapply Hk
  isplitl [Ho]; · iexists _; iexact Ho
  isplitl [Hz]; · iexact Hz
  iapply (Entails.of_eq (rest_at m ρ c i)); iexact Hp

/-- A semaphore nobody pays closes at once. -/
theorem close_unused (K : Dev nD × CI → ℕ) (c : Dev nD) (i : CI) (hd : dutySet c (some i) = ∅) :
    iprop(Know m ρ K ∗ atPos ER (kcell (c, i)) 0 ∅ 0) ⊢ (|={Set.univ}=> semVal (kcell (c, i)) 0 : sProp 𝕄) := by
  unfold Know
  iintro ⟨⟨#HR, #Hl⟩, Ha⟩
  iapply (Rounds.cell_close ER (sched m ρ) (Set.mem_univ (K (c, i))) (fun h => h) (R := 0) (fun r hr => by
    rcases Nat.eq_zero_or_pos r with h | h
    · rw [h, duties_at]; exact hd
    · exact duties_later m ρ _ r h))
  isplitr; · iapply (inv_at m ρ K c i); iexact HR
  iexact Ha

/-- The device's slot for peer `s` before point `n`: landed, if its group's point is past or the peer is the device; else to be waited for. -/
def recvSt (c : Dev nD) (n : ℕ) (s : Fin 32) : sProp 𝕄 :=
  if s.val / 4 < n ∨ s = c then iprop(slotPts c s (landed m ρ c) ∗ semVal (kcell (c, iRecv s)) 0)
  else iprop(atPos ER (kcell (c, iRecv s)) 0 ∅ 0 ∗ cred (tallyAt (kcell (c, iRecv s)) () Nc))

theorem recv_step (K : Dev nD × CI → ℕ) (c : Dev nD) (i : grid0.Coords) (O : CellTallies nD τ sig Unit) (hO : Above 2 O) {α : Type} (Kt : α → sProp 𝕄)
    (x : Fin 32) (xs : List (Fin 32)) (k : Unit → BP F α) :
    iprop(Know m ρ K ∗ recvSt m ρ c (i 0).val x ∗ owing c O ∗ ((recvSt m ρ c ((i 0).val + 1) x ∗ owing c O) -∗ WP c (k ⟨⟩) Kt))
      ⊢ WP c (recvStep i bM (Memref.isWhole_whole _) rM (Memref.isWhole_whole _) cc0_scratch3 c x k) Kt := by
  unfold recvStep recvSt
  have hg := grpW_iff i c x
  generalize (i 0).val = n at hg ⊢
  by_cases h : n = x.val / 4 ∧ x ≠ c
  · rw [dif_pos (hg.mpr h), if_neg (by rintro (h' | h'); exacts [by omega, h.2 h']), if_pos (Or.inl (by omega))]
    simp only [Prog.lift, Prog.bind_op, Prog.bind_ret, Prog.pure_eq_ret]
    have hd : dutySet c (some (iRecv x)) = {x} := if_neg h.2
    iintro ⟨#HK, ⟨Ha, Hc⟩, Ho, Hk⟩
    iapply (wp_await m ρ K c (iRecv x) (wpE_waitDma2_eq 𝒱₀ (c : Thread nD τ) none Set.univ) (by rw [hd]; exact (Nat.one_mul _).symm) O hO) $$ [Ha Hc Ho]
    · isplitr; · iexact HK
      isplitl [Hc]; · iexact Hc
      isplitl [Ho]; · iexact Ho
      iexact Ha
    iintro ⟨Ho, Hz, Hp⟩
    iapply Hk
    isplitr [Ho]
    · isplitl [Hp]
      · iapply (Entails.of_eq (show bigSep (dutySet c (some (iRecv x))) (fun d => pay m ρ c d (some (iRecv x))) = slotPts c x (landed m ρ c) by
          rw [hd, bigSep_singleton]; rfl)); iexact Hp
      iexact Hz
    iexact Ho
  · rw [dif_neg (fun h' => h (hg.mp h'))]
    simp only [Prog.pure_eq_ret, Prog.bind_ret]
    have hiff : Iff (x.val / 4 < n + 1 ∨ x = c) (x.val / 4 < n ∨ x = c) := by
      by_cases hx : x = c
      · exact iff_of_true (Or.inr hx) (Or.inr hx)
      · have hn : n ≠ x.val / 4 := fun h' => h ⟨h', hx⟩
        exact or_congr (by omega) Iff.rfl
    rw [if_congr hiff rfl rfl]
    iintro ⟨-, HP, Ho, Hk⟩
    iapply Hk
    isplitl [HP] <;> iassumption

/-- Before and after the wait for the end of the copy to peer `s`. -/
def doneP (c s : Dev nD) : sProp 𝕄 :=
  if s = c then iprop(emp) else iprop(atPos ER (kcell (c, iSend s)) 0 ∅ 0 ∗ cred (tallyAt (kcell (c, iSend s)) () Nc))
def doneQ (c s : Dev nD) : sProp 𝕄 :=
  if s = c then iprop(emp) else iprop(rowsPts c s (xbf m ρ c) ∗ semVal (kcell (c, iSend s)) 0)

theorem done_step (K : Dev nD × CI → ℕ) (c : Dev nD) (O : CellTallies nD τ sig Unit) (hO : Above 0 O) {α : Type} (Kt : α → sProp 𝕄)
    (x : Fin 32) (xs : List (Fin 32)) (k : Unit → BP F α) :
    iprop(Know m ρ K ∗ doneP (F := F) c x ∗ owing c O ∗ ((doneQ m ρ c x ∗ owing c O) -∗ WP c (k ⟨⟩) Kt))
      ⊢ WP c (doneStep bM (Memref.isWhole_whole _) rM (Memref.isWhole_whole _) cc0_scratch2 c x k) Kt := by
  unfold doneStep doneP doneQ
  by_cases h : x = c
  · rw [if_pos h, if_pos h]
    rw [dif_neg (fun h' => (neW_iff c x).mp h' h)]
    simp only [Prog.pure_eq_ret, Prog.bind_ret]
    iintro ⟨-, -, Ho, Hk⟩
    iapply Hk
    isplitr; · iempintro
    iexact Ho
  · rw [if_neg h, if_neg h]
    rw [dif_pos ((neW_iff c x).mpr h)]
    simp only [Prog.lift, Prog.bind_op, Prog.bind_ret, Prog.pure_eq_ret]
    have hd : dutySet c (some (iSend x)) = {c} := if_neg h
    iintro ⟨#HK, ⟨Ha, Hc⟩, Ho, Hk⟩
    iapply (wp_await m ρ K c (iSend x) (wpE_waitDma2_eq 𝒱₀ (c : Thread nD τ) none Set.univ) (by rw [hd]; exact (Nat.one_mul _).symm) O hO) $$ [Ha Hc Ho]
    · isplitr; · iexact HK
      isplitl [Hc]; · iexact Hc
      isplitl [Ho]; · iexact Ho
      iexact Ha
    iintro ⟨Ho, Hz, Hp⟩
    iapply Hk
    isplitr [Ho]
    · isplitl [Hp]
      · iapply (Entails.of_eq (show bigSep (dutySet c (some (iSend x))) (fun d => pay m ρ c d (some (iSend x))) = rowsPts c x (xbf m ρ c) by
          rw [hd, bigSep_singleton]; rfl)); iexact Hp
      iexact Hz
    iexact Ho

end Cert.KernelIdeal.Exchange

end
-- ==== Proof.Body.lean ====
/-
# The body at one point of the grid

What a device holds before, between and after the eight points, and what each point computes: the loads and stores of
the body between its loops, and the loops put together — the handshake and the copies at the first point, the waits
and the products at every point, the ends of the copies, the exit handshake and the activation at the last.
-/
module

public import proofs.«01_k».proof.Proof.Loops
public import proofs.«01_k».proof.Proof.Gen.KernelIdeal.Points
public import Idealize.ShloMosaic.Lib.Memref

@[expose] public section

set_option maxRecDepth 16384

noncomputable section

namespace Cert.KernelIdeal.Exchange

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Whole loads and stores of a staging buffer -/

omit [FloatOps F] in
theorem read_whole_rect {s : Shape} {e : EltTy} (M : Memref sig .tc .vmem s e) {off : Fin s.rank → Nat} (hz : off = fun _ => 0)
    (inb : ∀ a, off a + s.size a ≤ s.size a) (f : M.view.ty.Contents (Elt F)) :
    (M.access (Rect.unit off s.size inb)).read (Elt F) f = M.view.read (Elt F) f := by
  subst hz
  funext x
  exact congrArg (M.view.read (Elt F) f) (Rect.emb_whole_apply s x)

omit [FloatOps F] in
theorem read_whole_store {s : Shape} {e : EltTy} (M : Memref sig .tc .vmem s e) {off : Fin s.rank → Nat} (hz : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  rw [← read_whole_rect M hz inb]
  exact View.read_write_univ _ _

theorem wp_ld {s : Shape} {e : EltTy} (c : Dev nD) (M : Memref sig .tc .vmem s e) {off : Fin s.rank → Nat} (hz : off = fun _ => 0)
    (inb : ∀ a, off a + s.size a ≤ s.size a) {hl : M.view.LoadsAt (Rect.unit off s.size inb).toLoadRect} (X : s.Idx → Elt F e)
    {α : Type} {k : (s.Idx → Elt F e) → BP F α} {Q : α → sProp 𝕄} :
    owns (c : Thread nD τ) M fullShare X
      ⊢ iprop((owns (c : Thread nD τ) M fullShare X -∗ WP c (k X) Q) -∗ WP c (.op (.load M (Rect.unit off s.size inb).toLoadRect hl) k) Q) := by
  unfold owns
  iintro ⟨%f, %hf, H⟩ Hk
  subst hf
  iapply (wp_load_rect 𝒱₀ (c : Thread nD τ) none Set.univ (m := M) (r := Rect.unit off s.size inb) (S := M.view.set) (View.set_slice_subset _ _)) $$ H
  iintro H
  rw [read_whole_rect M hz inb]
  iapply Hk
  iexists f; isplitr; · (ipureintro; rfl)
  iexact H

theorem wp_st {s : Shape} {e : EltTy} (c : Dev nD) (M : Memref sig .tc .vmem s e) {off : Fin s.rank → Nat} (hz : off = fun _ => 0)
    (inb : ∀ a, off a + s.size a ≤ s.size a) {hx : (M.access (Rect.unit off s.size inb)).Stores Finset.univ} {hm} (X w : s.Idx → Elt F e)
    {α : Type} {k : PUnit → BP F α} {Q : α → sProp 𝕄} :
    owns (c : Thread nD τ) M fullShare X
      ⊢ iprop((owns (c : Thread nD τ) M fullShare w -∗ WP c (k ⟨⟩) Q) -∗ WP c (.op (.store M (Rect.unit off s.size inb) w Finset.univ hx hm) k) Q) := by
  unfold owns
  iintro ⟨%f, %hf, H⟩ Hk
  iapply (wp_store 𝒱₀ (c : Thread nD τ) none Set.univ (m := M) (r := Rect.unit off s.size inb) (Mk := Finset.univ) (S := M.view.set) (View.set_slice_subset _ _)) $$ H
  iintro H
  iapply Hk
  iexists _; isplitr
  · ipureintro; exact read_whole_store M hz inb f w
  iexact H

theorem hz2 : (![0, 0] : Fin 2 → Nat) = fun _ => 0 := funext fun a => by fin_cases a <;> rfl

/-! ## Loads and stores of a slot -/

/-- The block in slot `k` of a landing buffer's contents, as a load returns it. -/
def blk (f : (cc0_scratch1 : Ref sig .tc).ty.Contents (Elt F)) (k : Fin 32) : Vec F S1x256x256 .bf16 :=
  fun j : S1x256x256.Idx => f (ix3 k (j 1 : Fin 256) (j 2 : Fin 256) : S32x256x256.Idx)

omit [FloatOps F] in
theorem slot_read (f : (cc0_scratch1 : Ref sig .tc).ty.Contents (Elt F)) (k : Fin 32) :
    (rM.access (slotRect k)).read (Elt F) f = blk f k := by
  funext j
  obtain ⟨z, x, y, rfl⟩ : ∃ (z : Fin 1) (x y : Fin 256), j = ix3 z x y := ⟨j 0, j 1, j 2, eq_ix3 j⟩
  obtain rfl : z = ⟨0, Nat.one_pos⟩ := Subsingleton.elim _ _
  exact congrArg f (emb_unit_slot k (slot_inb k) x y)

omit [FloatOps F] in
theorem slot_access_set (k : Fin 32) : (rM.access (slotRect k)).set = slotSet k := (View.set_reshape _ _).symm

theorem wp_ld_slot (c : Dev nD) (k : Fin 32) {off : Fin 3 → Nat} (ho : off = ![k.val, 0, 0]) (inb : ∀ a, off a + S1x256x256.size a ≤ S32x256x256.size a)
    {hl : rM.view.LoadsAt (Rect.unit (s := S32x256x256) off S1x256x256.size inb).toLoadRect} (f : Buf (Elt F) ((c : Thread nD τ).loc cc0_scratch1))
    {α : Type} {kk : Vec F S1x256x256 .bf16 → BP F α} {Q : α → sProp 𝕄} :
    slotPts c k f ⊢ iprop((slotPts c k f -∗ WP c (kk (blk f k)) Q) -∗ WP c (.op (.load rM (Rect.unit (s := S32x256x256) off S1x256x256.size inb).toLoadRect hl) kk) Q) := by
  subst ho
  unfold slotPts
  iintro H Hk
  iapply (wp_load_rect 𝒱₀ (c : Thread nD τ) none Set.univ (m := rM) (r := slotRect k) (S := slotSet k) (by rw [slot_access_set])) $$ H
  iintro H
  rw [slot_read]
  iapply Hk; iexact H

theorem wp_st_slot (c : Dev nD) (k : Fin 32) {off : Fin 3 → Nat} (ho : off = ![k.val, 0, 0]) (inb : ∀ a, off a + S1x256x256.size a ≤ S32x256x256.size a)
    {w : S1x256x256.Idx → Elt F .bf16} {hx : (rM.access (Rect.unit (s := S32x256x256) off S1x256x256.size inb)).Stores Finset.univ} {hm}
    (f g : Buf (Elt F) ((c : Thread nD τ).loc cc0_scratch1))
    (hg : ∀ x y : Fin 256, (g : (cc0_scratch1 : Ref sig .tc).ty.Contents (Elt F)) (ix3 k x y : S32x256x256.Idx) = w (ix3 (⟨0, Nat.one_pos⟩ : Fin 1) x y))
    {α : Type} {kk : PUnit → BP F α} {Q : α → sProp 𝕄} :
    slotPts c k f ⊢ iprop((slotPts c k g -∗ WP c (kk ⟨⟩) Q) -∗ WP c (.op (.store rM (Rect.unit (s := S32x256x256) off S1x256x256.size inb) w Finset.univ hx hm) kk) Q) := by
  subst ho
  have e : (((slotI rM k).view.loc (c : Thread nD τ) ↦[(slotI rM k).view.set]{fullShare}
      ((rM.view.slice (slotRect k)).write (Elt F) f w Finset.univ)) : sProp 𝕄) = slotPts c k g := pointsTo_congr (slot_store k f g w hg)
  iintro H Hk
  iapply (wp_store 𝒱₀ (c : Thread nD τ) none Set.univ (m := rM) (r := slotRect k) (Mk := Finset.univ) (S := slotSet k) (f := f) (by
    show (rM.access (slotRect k)).set ⊆ slotSet k; rw [slot_access_set])) $$ [H]
  · unfold slotPts; iexact H
  iintro H
  iapply Hk
  iapply (Entails.of_eq e); iexact H

end Cert.KernelIdeal.Exchange

end
-- ==== Proof.Point.lean ====
/-
# The body at one point of the grid

What a device holds before, between and after the eight points, and what each point does to it: the handshake and the
copies at the first point, the waits and the products at every point, and at the last one the ends of the copies, the
exit handshake and the activation.
-/
module

public import proofs.«01_k».proof.Proof.Body

@[expose] public section

set_option maxRecDepth 16384

noncomputable section

namespace Cert.KernelIdeal.Exchange

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The conditions of the body, and its offsets -/

theorem cond1_iff : ∀ i : grid0.Coords, k0_cond1 i = 1#1 ↔ (i 0).val = 0 := by decide +kernel
theorem cond98_iff : ∀ i : grid0.Coords, k0_cond98 i = 1#1 ↔ (i 0).val = 0 := by decide +kernel
theorem cond99_iff : ∀ i : grid0.Coords, k0_cond99 i = 1#1 ↔ (i 0).val ≠ 0 := by decide +kernel
theorem cond100_iff : ∀ i : grid0.Coords, k0_cond100 i = 1#1 ↔ (i 0).val = 7 := by decide +kernel
theorem coord_val : ∀ t : Fin cfg0.N, (grid0.coords t 0).val = t.val := by decide +kernel

/-! ## What is computed -/

/-- Point `n` of the grid, and slot `j` of its group. -/
def pt (n : ℕ) : Fin cfg0.N := ⟨n % 8, by rw [show cfg0.N = 8 from N_0]; omega⟩
def kx (n j : ℕ) : Fin 32 := ⟨(4 * n + j) % 32, Nat.mod_lt _ (by decide)⟩

/-- The block of the weight for point `n`, staged. -/
def wstg (c : Dev nD) (n : ℕ) : Vec F S1024x4096 .bf16 :=
  (win0_1.blk (pt n)).view.read (Elt F) ((s₀ m ρ).mem ((c : Thread nD τ).loc main_arg1))

/-- The accumulator after point `n`. -/
def acc (c : Dev nD) : ℕ → Vec F S256x4096 .f32
  | 0 => k0_pay4 (blk (landed m ρ c) (kx 0 0)) (blk (landed m ρ c) (kx 0 1)) (blk (landed m ρ c) (kx 0 2)) (blk (landed m ρ c) (kx 0 3)) (wstg m ρ c 0)
  | n + 1 => k0_pay5 (blk (landed m ρ c) (kx (n + 1) 0)) (blk (landed m ρ c) (kx (n + 1) 1)) (blk (landed m ρ c) (kx (n + 1) 2)) (blk (landed m ρ c) (kx (n + 1) 3))
      (wstg m ρ c (n + 1)) (acc c n)

/-- The result of device `c`. -/
def outAt (c : Dev nD) : Vec F S256x4096 .f32 := k0_pay1 (acc m ρ c 7)

/-! ## Sums over the other devices -/

omit [FloatOps F] in
theorem others (c : Fin 32) (X : Fin 32 → sProp 𝕄) :
    (bigSep Finset.univ fun s => if s = c then iprop(emp) else X s) = bigSep (Finset.univ.erase c) X := by
  rw [bigSep_univ_at _ c, if_pos rfl]
  refine (emp_sep_eq _).trans (bigSep_congr fun s hs => if_neg (Finset.mem_erase.mp hs).1)

omit [FloatOps F] in
theorem listed (X : Fin 32 → sProp 𝕄) : bigSep Finset.univ X = bigSepL peers X :=
  bigSep_univ_eq_bigSepL peers (by decide) (by decide) X

theorem wp_done (c : Dev nD) {α : Type} (x : α) (Kt : α → sProp 𝕄) : Kt x ⊢ WP c (Prog.ret x) Kt := by
  unfold WP
  rw [wp_ret]
  exact fupd_intro

/-! ## The copied block held whole, its rows loaded -/

/-- The copied block of device `c`, whole, at contents `f`. -/
def bPts (c : Dev nD) (f : Buf (Elt F) ((c : Thread nD τ).loc cc0_scratch0)) : sProp 𝕄 := (((c : Thread nD τ).loc cc0_scratch0) ↦{fullShare} f)

omit [FloatOps F] in
theorem owns_b (c : Dev nD) (f : Buf (Elt F) ((c : Thread nD τ).loc cc0_scratch0)) : owns (c : Thread nD τ) bM fullShare f ⊢ (bPts c f : sProp 𝕄) := by
  unfold bPts
  rw [owns_whole_eq]
  iintro ⟨%g, %hg, H⟩; subst hg; iexact H
omit [FloatOps F] in
theorem b_owns (c : Dev nD) (f : Buf (Elt F) ((c : Thread nD τ).loc cc0_scratch0)) : (bPts c f : sProp 𝕄) ⊢ owns (c : Thread nD τ) bM fullShare f := by
  unfold bPts
  rw [owns_whole_eq]
  iintro H; iexists f; isplitr; · (ipureintro; rfl)
  iexact H

/-- The rows of the block that go to device `k`, as a load returns them. -/
def rowsOf (f : (cc0_scratch0 : Ref sig .tc).ty.Contents (Elt F)) (k : Fin 32) : Vec F S256x256 .bf16 :=
  fun j : S256x256.Idx => f (rowIx k (j 0 : Fin 256) (j 1 : Fin 256))

abbrev rowsRect (k : Fin 32) : Rect S8192x256 := Rect.unit (s := S8192x256) ![256 * k.val, 0] S256x256.size (rows_inb k)

omit [FloatOps F] in
theorem rows_read (f : (cc0_scratch0 : Ref sig .tc).ty.Contents (Elt F)) (k : Fin 32) :
    (bM.access (rowsRect k)).read (Elt F) f = rowsOf f k := by
  funext j
  obtain ⟨x, y, rfl⟩ : ∃ (x y : Fin 256), j = ix2 x y := ⟨j 0, j 1, eq_ix2 j⟩
  exact congrArg f (emb_rows k x y)

theorem wp_ld_rows (c : Dev nD) (k : Fin 32) {off : Fin 2 → Nat} (ho : off = ![256 * k.val, 0]) (inb : ∀ a, off a + S256x256.size a ≤ S8192x256.size a)
    {hl : bM.view.LoadsAt (Rect.unit (s := S8192x256) off S256x256.size inb).toLoadRect} (f : Buf (Elt F) ((c : Thread nD τ).loc cc0_scratch0))
    {α : Type} {kk : Vec F S256x256 .bf16 → BP F α} {Q : α → sProp 𝕄} :
    bPts c f ⊢ iprop((bPts c f -∗ WP c (kk (rowsOf f k)) Q) -∗ WP c (.op (.load bM (Rect.unit (s := S8192x256) off S256x256.size inb).toLoadRect hl) kk) Q) := by
  subst ho
  unfold bPts
  iintro H Hk
  iapply (wp_load_rect 𝒱₀ (c : Thread nD τ) none Set.univ (m := bM) (r := rowsRect k) (S := Finset.univ) (Finset.subset_univ _)) $$ H
  iintro H
  rw [rows_read]
  iapply Hk; iexact H

/-! ## Between the barrier signals and the copies -/

theorem mid_wp (K : Dev nD × CI → ℕ) (c : Dev nD) (i : grid0.Coords) (h1 : k0_cond1 i = 1#1) (arg1 : Memref sig .tc .vmem S8192x256 .bf16)
    (O : CellTallies nD τ sig Unit) (hO : Above 1 O) {α : Type} (Kt : α → sProp 𝕄) (k : Unit → BP F α) :
    iprop(Know m ρ K ∗ atPos ER (kcell (c, iBar)) 0 ∅ 0 ∗ cred (tallyAt (kcell (c, iBar)) () 31) ∗ owing c O
        ∗ owns (c : Thread nD τ) arg1 fullShare (xstg m ρ c) ∗ (∃ f, bPts c f) ∗ (∃ f, slotPts c c f)
        ∗ ((owing c O ∗ semVal (kcell (c, iBar)) 0 ∗ (bigSep (Finset.univ.erase c) fun d => iprop(∃ f, slotPts d c f))
            ∗ owns (c : Thread nD τ) arg1 fullShare (xstg m ρ c) ∗ bPts c (xbf m ρ c) ∗ slotPts c c (landed m ρ c)) -∗ WP c (k ⟨⟩) Kt))
      ⊢ WP c (mid i arg1 bM (Memref.isWhole_whole _) rM (Memref.isWhole_whole _) c h1 k) Kt := by
  unfold mid
  simp only [semWaitWord, Prog.lift, Prog.bind_op, Prog.bind_ret, Prog.pure_eq_ret]
  iintro ⟨#HK, Ha, Hc, Ho, Hx, ⟨%f0, Hb⟩, ⟨%f1, Hs⟩, Hk⟩
  iapply (wp_await m ρ K c iBar (wpE_semWait_eq 𝒱₀ (c : Thread nD τ) none Set.univ) (by
    show _ = (Finset.univ.erase c).card * 1
    rw [Finset.card_erase_of_mem (Finset.mem_univ c)]; rfl) O hO) $$ [Ha Hc Ho]
  · isplitr; · iexact HK
    isplitl [Hc]; · iexact Hc
    isplitl [Ho]; · iexact Ho
    iexact Ha
  iintro ⟨Ho, Hz, Hp⟩
  iapply (wp_ld c arg1 hz2 inb_S8192x256_S8192x256_0_0 (xstg m ρ c)) $$ Hx
  iintro Hx
  ihave Hb := (b_owns c f0) $$ Hb
  iapply (wp_ld c bM hz2 inb_S8192x256_S8192x256_0_0 f0) $$ Hb
  iintro Hb
  rw [show k0_pay2 (F := F) (xstg m ρ c) = xbf m ρ c from rfl]
  iapply (wp_st c bM hz2 inb_S8192x256_S8192x256_0_0 f0 (xbf m ρ c)) $$ Hb
  iintro Hb
  ihave Hb := (owns_b c (xbf m ρ c)) $$ Hb
  iapply (wp_ld_rows c c (k0_off1_eq c) (k0_off1_inb i c h1) (xbf m ρ c)) $$ Hb
  iintro Hb
  iapply (wp_ld_slot c c (k0_off2_eq c) (k0_off2_inb i c h1) f1) $$ Hs
  iintro Hs
  iapply (wp_st_slot c c (k0_off2_eq c) (k0_off2_inb i c h1) f1 (landed m ρ c) (fun x y => (unit_block (rowsOf (xbf m ρ c) c) x y).symm)) $$ Hs
  iintro Hs
  iapply Hk
  isplitl [Ho]; · iexact Ho
  isplitl [Hz]; · iexact Hz
  isplitl [Hp]; · iexact Hp
  isplitl [Hx]; · iexact Hx
  isplitl [Hb]; · iexact Hb
  iexact Hs

/-! ## The products of one point -/

/-- A load of a slot that has landed, out of the landing buffer's state. -/
theorem wp_ld_landed (c : Dev nD) (n : ℕ) (k : Fin 32) (hk : k.val / 4 < n) {off : Fin 3 → Nat} (ho : off = ![k.val, 0, 0])
    (inb : ∀ a, off a + S1x256x256.size a ≤ S32x256x256.size a)
    {hl : rM.view.LoadsAt (Rect.unit (s := S32x256x256) off S1x256x256.size inb).toLoadRect}
    {α : Type} {kk : Vec F S1x256x256 .bf16 → BP F α} {Q : α → sProp 𝕄} :
    bigSep Finset.univ (recvSt m ρ c n)
      ⊢ iprop((bigSep Finset.univ (recvSt m ρ c n) -∗ WP c (kk (blk (landed m ρ c) k)) Q)
          -∗ WP c (.op (.load rM (Rect.unit (s := S32x256x256) off S1x256x256.size inb).toLoadRect hl) kk) Q) := by
  rw [bigSep_univ_at (recvSt m ρ c n) k]
  have e : recvSt m ρ c n k = iprop(slotPts c k (landed m ρ c) ∗ semVal (kcell (c, iRecv k)) 0) := if_pos (Or.inl hk)
  rw [e]
  iintro ⟨⟨Hs, Hz⟩, HR⟩ Hk
  iapply (wp_ld_slot c k ho inb (landed m ρ c)) $$ Hs
  iintro Hs
  iapply Hk
  isplitr [HR]
  · isplitl [Hs] <;> iassumption
  iexact HR

theorem off67 (i : grid0.Coords) (r : Fin 4) : k0_off67 i (BitVec.ofNat 32 r.val) = ![(kx (i 0).val r.val).val, 0, 0] := by
  rw [k0_off67_eq i r]
  have h : (i 0).val < 8 := (i 0).isLt
  have hr := r.isLt
  have e : 4 * (i 0).val + r.val = (kx (i 0).val r.val).val := by
    show _ = (4 * (i 0).val + r.val) % 32
    rw [Nat.mod_eq_of_lt (by omega)]
  rw [e]

theorem kx_group (n : ℕ) (hn : n < 8) (j : ℕ) (hj : j < 4) : (kx n j).val / 4 < n + 1 := by
  show (4 * n + j) % 32 / 4 < n + 1
  omega

theorem comp_wp (c : Dev nD) (i : grid0.Coords) (arg2 : Memref sig .tc .vmem S1024x4096 .bf16) (arg3 : Memref sig .tc .vmem S256x4096 .f32)
    (X : Vec F S256x4096 .f32) (hX : (i 0).val ≠ 0 → X = acc m ρ c ((i 0).val - 1)) {α : Type} (Kt : α → sProp 𝕄) (k : Unit → BP F α) :
    iprop(bigSep Finset.univ (recvSt m ρ c ((i 0).val + 1)) ∗ owns (c : Thread nD τ) arg2 fullShare (wstg m ρ c (i 0).val) ∗ owns (c : Thread nD τ) arg3 fullShare X
        ∗ ((bigSep Finset.univ (recvSt m ρ c ((i 0).val + 1)) ∗ owns (c : Thread nD τ) arg2 fullShare (wstg m ρ c (i 0).val)
            ∗ owns (c : Thread nD τ) arg3 fullShare (acc m ρ c (i 0).val)) -∗ WP c (k ⟨⟩) Kt))
      ⊢ WP c (comp i arg2 arg3 rM k) Kt := by
  unfold comp
  have hlt : (i 0).val < 8 := (i 0).isLt
  simp only [Prog.lift, Prog.bind_op, Prog.bind_ret, Prog.pure_eq_ret]
  iintro ⟨HR, Hw, HX, Hk⟩
  iapply (wp_ld_landed m ρ c _ (kx (i 0).val 0) (kx_group _ hlt 0 (by decide)) (off67 i 0) (k0_off67_inb i 0)) $$ HR
  iintro HR
  iapply (wp_ld_landed m ρ c _ (kx (i 0).val 1) (kx_group _ hlt 1 (by decide)) (off67 i 1) (k0_off67_inb i 1)) $$ HR
  iintro HR
  iapply (wp_ld_landed m ρ c _ (kx (i 0).val 2) (kx_group _ hlt 2 (by decide)) (off67 i 2) (k0_off67_inb i 2)) $$ HR
  iintro HR
  iapply (wp_ld_landed m ρ c _ (kx (i 0).val 3) (kx_group _ hlt 3 (by decide)) (off67 i 3) (k0_off67_inb i 3)) $$ HR
  iintro HR
  iapply (wp_ld c arg2 hz2 inb_S1024x4096_S1024x4096_0_0 (wstg m ρ c (i 0).val)) $$ Hw
  iintro Hw
  by_cases h0 : (i 0).val = 0
  · rw [dif_pos ((cond98_iff i).mpr h0), dif_neg (fun h => (cond99_iff i).mp h h0)]
    simp only [Prog.bind_op, Prog.bind_ret, Prog.pure_eq_ret]
    iapply (wp_ld c arg3 hz2 inb_S256x4096_S256x4096_0_0 X) $$ HX
    iintro HX
    iapply (wp_st c arg3 hz2 inb_S256x4096_S256x4096_0_0 X _) $$ HX
    iintro HX
    iapply Hk
    isplitl [HR]; · iexact HR
    isplitl [Hw]; · iexact Hw
    rw [h0]
    iexact HX
  · obtain ⟨n, hn⟩ := Nat.exists_eq_succ_of_ne_zero h0
    rw [dif_neg (fun h => h0 ((cond98_iff i).mp h)), dif_pos ((cond99_iff i).mpr h0)]
    have hX' := hX h0
    simp only [Prog.bind_op, Prog.bind_ret, Prog.pure_eq_ret]
    iapply (wp_ld c arg3 hz2 inb_S256x4096_S256x4096_0_0 X) $$ HX
    iintro HX
    iapply (wp_ld c arg3 hz2 inb_S256x4096_S256x4096_0_0 X) $$ HX
    iintro HX
    iapply (wp_st c arg3 hz2 inb_S256x4096_S256x4096_0_0 X _) $$ HX
    iintro HX
    iapply Hk
    isplitl [HR]; · iexact HR
    isplitl [Hw]; · iexact Hw
    rw [hX', hn]
    iexact HX

/-! ## Regrouping what is held for each peer -/

omit [FloatOps F] in
theorem split_own (X : OI → sProp 𝕄) :
    bigSep Finset.univ X = iprop((bigSep Finset.univ fun k : Fin 32 => X (.inl k)) ∗ (bigSep Finset.univ fun k : Fin 32 => X (.inr (.inl k))) ∗ X (.inr (.inr ()))) := by
  rw [bigSep_univ_sum, bigSep_univ_sum, show (Finset.univ : Finset Unit) = {()} from rfl, bigSep_singleton]
  rfl
omit [FloatOps F] in
theorem split_all (X : CI → sProp 𝕄) :
    bigSep Finset.univ X = iprop((bigSep Finset.univ fun o : OI => X (.inl o)) ∗ X iBar) := by
  rw [bigSep_univ_sum, show (Finset.univ : Finset Unit) = {()} from rfl, bigSep_singleton]
  rfl

theorem sig_intro (c : Dev nD) (i : CI) :
    iprop((bigSep (Finset.univ.erase c) fun s => dutyTok ER (kcell (s, i)) 0 c) ∗ bigSep (Finset.univ.erase c) fun s => pay m ρ s c (some i))
      ⊢ bigSepL peers (sigP m ρ c i) := by
  rw [← bigSep_sep', ← listed]
  unfold sigP
  rw [others]

theorem exit_intro (c : Dev nD) :
    (bigSep (Finset.univ.erase c) fun s => dutyTok ER (kcell (s, iExit)) 0 c) ⊢ bigSepL peers (sigP m ρ c iExit) := by
  rw [← listed]
  unfold sigP
  rw [others]
  refine bigSep_mono fun s _ => ?_
  show dutyTok ER (kcell (s, iExit)) 0 c ⊢ iprop(dutyTok ER (kcell (s, iExit)) 0 c ∗ emp)
  iintro H
  isplitl [H]; · iexact H
  iempintro

theorem send_intro (c : Dev nD) :
    iprop((bigSep (Finset.univ.erase c) fun s => rowsPts c s (xbf m ρ c)) ∗ (bigSep (Finset.univ.erase c) fun s => iprop(∃ f, slotPts s c f))
        ∗ (bigSep (Finset.univ.erase c) fun s => dutyTok ER (kcell (c, iSend s)) 0 c) ∗ bigSep (Finset.univ.erase c) fun s => dutyTok ER (kcell (s, iRecv c)) 0 c)
      ⊢ bigSepL peers (sendP m ρ c) := by
  rw [← bigSep_sep', ← bigSep_sep', ← bigSep_sep', ← listed]
  unfold sendP
  rw [others]

omit [FloatOps F] in
theorem done_intro (c : Dev nD) :
    iprop((bigSep (Finset.univ.erase c) fun s => atPos ER (kcell (c, iSend s)) 0 ∅ 0) ∗ bigSepL peers (sendQ (F := F) c))
      ⊢ bigSepL peers (doneP (F := F) c) := by
  rw [← listed, ← listed]
  unfold sendQ doneP
  rw [others, others, ← bigSep_sep']

theorem done_exit (c : Dev nD) :
    bigSepL peers (doneQ m ρ c)
      = iprop((bigSep (Finset.univ.erase c) fun s => rowsPts c s (xbf m ρ c)) ∗ bigSep (Finset.univ.erase c) fun s => semVal (kcell (c, iSend s)) 0) := by
  rw [← listed]
  unfold doneQ
  rw [others, ← bigSep_sep']

theorem recv_intro (c : Dev nD) :
    iprop((slotPts c c (landed m ρ c) ∗ semVal (kcell (c, iRecv c)) 0) ∗ (bigSep (Finset.univ.erase c) fun s => atPos ER (kcell (c, iRecv s)) 0 ∅ 0)
        ∗ bigSep (Finset.univ.erase c) fun s => cred (tallyAt (kcell (c, iRecv s)) () Nc))
      ⊢ bigSep Finset.univ (recvSt m ρ c 0) := by
  rw [← bigSep_sep', bigSep_univ_at (recvSt m ρ c 0) c, show recvSt m ρ c 0 c = iprop(slotPts c c (landed m ρ c) ∗ semVal (kcell (c, iRecv c)) 0) from if_pos (Or.inr rfl)]
  refine Entails.of_eq (congrArg _ (bigSep_congr fun s hs => ?_))
  exact (if_neg (by rintro (h | h); exacts [Nat.not_lt_zero _ h, (Finset.mem_erase.mp hs).1 h])).symm

theorem recv_exit (c : Dev nD) :
    bigSep Finset.univ (recvSt m ρ c 8)
      = iprop((bigSep Finset.univ fun s => slotPts c s (landed m ρ c)) ∗ bigSep Finset.univ fun s => semVal (kcell (c, iRecv s)) 0) := by
  rw [← bigSep_sep']
  exact bigSep_congr fun s _ => if_pos (Or.inl (by have := s.isLt; omega))

/-! ## What a device holds before the first point, and between points -/

/-- The tokens of everything device `c` pays. -/
def payToks (c : Dev nD) : sProp 𝕄 :=
  iprop((bigSep (Finset.univ.erase c) fun s => dutyTok ER (kcell (s, iBar)) 0 c) ∗ (bigSep (Finset.univ.erase c) fun s => dutyTok ER (kcell (s, iExit)) 0 c)
    ∗ (bigSep (Finset.univ.erase c) fun s => dutyTok ER (kcell (c, iSend s)) 0 c) ∗ bigSep (Finset.univ.erase c) fun s => dutyTok ER (kcell (s, iRecv c)) 0 c)

/-- Its positions at its own semaphores, and those tokens. -/
def linear (c : Dev nD) : sProp 𝕄 :=
  iprop((bigSep Finset.univ fun i : CI => atPos ER (kcell (c, i)) 0 ∅ 0) ∗ payToks (F := F) c)

/-- The credit of what the others pay it. -/
def credits (c : Dev nD) : sProp 𝕄 :=
  iprop(cred (tallyAt (kcell (c, iBar)) () 31) ∗ cred (tallyAt (kcell (c, iExit)) () 31)
    ∗ bigSep (Finset.univ.erase c) fun s => cred (tallyAt (kcell (c, iRecv s)) () Nc))

/-- What it keeps through the points between the first and the last. -/
def keep (c : Dev nD) : sProp 𝕄 :=
  iprop(rowsPts c c (xbf m ρ c) ∗ bigSepL peers (doneP (F := F) c) ∗ semVal (kcell (c, iSend c)) 0 ∗ semVal (kcell (c, iBar)) 0
    ∗ atPos ER (kcell (c, iExit)) 0 ∅ 0 ∗ cred (tallyAt (kcell (c, iExit)) () 31) ∗ bigSepL peers (sigP m ρ c iExit))

/-- The landing buffer at any contents is its slots, each at any contents. -/
theorem slots_any (c : Dev nD) (f : Buf (Elt F) ((c : Thread nD τ).loc cc0_scratch1)) :
    (((c : Thread nD τ).loc cc0_scratch1) ↦{fullShare} f : sProp 𝕄)
      ⊢ iprop((∃ f, slotPts c c f) ∗ bigSep (Finset.univ.erase c) fun s => pay m ρ s c (some iBar)) := by
  rw [slots_split, bigSep_univ_at _ c]
  iintro ⟨H1, H2⟩
  isplitl [H1]; · iexists f; iexact H1
  have h : (bigSep (Finset.univ.erase c) fun s => slotPts c s f) ⊢ bigSep (Finset.univ.erase c) fun s => pay m ρ s c (some iBar) :=
    bigSep_mono fun s _ => by
      show slotPts c s f ⊢ iprop(∃ f, slotPts c s f)
      iintro H; iexists f; iexact H
  iapply h; iexact H2

omit [FloatOps F] in
theorem b_rows (c : Dev nD) (f : Buf (Elt F) ((c : Thread nD τ).loc cc0_scratch0)) :
    (bPts c f : sProp 𝕄) = iprop(rowsPts c c f ∗ bigSep (Finset.univ.erase c) fun k => rowsPts c k f) := by
  unfold bPts
  rw [rows_split, bigSep_univ_at (fun k => rowsPts c k f) c]

/-- The first point's extra part: the barrier handshake and the copies. -/
theorem pro_wp (K : Dev nD × CI → ℕ) (c : Dev nD) (i : grid0.Coords) (h1 : k0_cond1 i = 1#1) (arg1 : Memref sig .tc .vmem S8192x256 .bf16)
    {α : Type} (Kt : α → sProp 𝕄) (k : Unit → BP F α) :
    iprop(Know m ρ K ∗ linear (F := F) c ∗ credits (F := F) c ∗ (∃ f, bPts c f) ∗ (∃ f, ((c : Thread nD τ).loc cc0_scratch1) ↦{fullShare} f)
        ∗ owing c (O₀ c) ∗ owns (c : Thread nD τ) arg1 fullShare (xstg m ρ c)
        ∗ ((keep m ρ c ∗ bigSep Finset.univ (recvSt m ρ c 0) ∗ owing c (exitO c peers) ∗ owns (c : Thread nD τ) arg1 fullShare (xstg m ρ c)) -∗ WP c (k ⟨⟩) Kt))
      ⊢ WP c (pro i arg1 bM (Memref.isWhole_whole _) rM (Memref.isWhole_whole _) cc0_scratch2 cc0_scratch3 c h1 k) Kt := by
  unfold pro linear credits payToks
  rw [split_all (F := F) (fun i : CI => atPos ER (kcell (c, i)) 0 ∅ 0), split_own,
    bigSep_univ_at (fun s : Fin 32 => (atPos ER (kcell (c, iSend s)) 0 ∅ 0 : sProp 𝕄)) c,
    bigSep_univ_at (fun s : Fin 32 => (atPos ER (kcell (c, iRecv s)) 0 ∅ 0 : sProp 𝕄)) c]
  iintro ⟨#HK, ⟨⟨⟨⟨HaSc, HaS⟩, ⟨HaRc, HaR⟩, HaE⟩, HaB⟩, HtB, HtE, HtS, HtR⟩, ⟨HcB, HcE, HcR⟩, Hb, ⟨%f, Hs⟩, Ho, Hx, Hk⟩
  ihave Hs := (slots_any m ρ c f) $$ Hs
  icases Hs with ⟨Hsc, Hs⟩
  ihave HP := (sig_intro m ρ c iBar) $$ [HtB Hs]
  · isplitl [HtB] <;> iassumption
  iapply (seq_rule c (sigStep barS c) (Know m ρ K) (sigP m ρ c iBar) (fun _ => iprop(emp))
    (fun xs => owing c ((exitO c peers + recvO c peers) + owedL c (fun d => tallyAt (kcell (d, iBar)) () 1) xs)) Kt
    (sig_step m ρ K c iBar barS rfl rfl (fun s hs => Finset.mem_erase.mpr ⟨hs.symm, Finset.mem_univ _⟩) (exitO c peers + recvO c peers) Kt) peers _)
  isplitr; · iexact HK
  isplitl [HP]; · iexact HP
  isplitl [Ho]; · iexact Ho
  rw [show owedL c (fun d => tallyAt (kcell (d, iBar)) () 1) [] = 0 from rfl, add_zero]
  iintro ⟨-, Ho⟩
  iapply (mid_wp m ρ K c i h1 arg1 (exitO c peers + recvO c peers) (above_add (above_mono (by decide) (above_exit c _)) (above_recv c _)) Kt _)
  isplitr; · iexact HK
  isplitl [HaB]; · iexact HaB
  isplitl [HcB]; · iexact HcB
  isplitl [Ho]; · iexact Ho
  isplitl [Hx]; · iexact Hx
  isplitl [Hb]; · iexact Hb
  isplitl [Hsc]; · iexact Hsc
  iintro ⟨Ho, Hz, Hp, Hx, Hb, Hsc⟩
  ihave Hb := (Entails.of_eq (b_rows c (xbf m ρ c))) $$ Hb
  icases Hb with ⟨Hbc, Hb⟩
  ihave HP := (send_intro m ρ c) $$ [Hb Hp HtS HtR]
  · isplitl [Hb]; · iexact Hb
    isplitl [Hp]; · iexact Hp
    isplitl [HtS]; · iexact HtS
    iexact HtR
  iapply (seq_rule c (sendStep bM (Memref.isWhole_whole _) rM (Memref.isWhole_whole _) cc0_scratch2 cc0_scratch3 c) (Know m ρ K) (sendP m ρ c) (sendQ (F := F) c)
    (fun xs => owing c (exitO c peers + recvO c xs)) Kt (send_step m ρ K c (exitO c peers) Kt) peers _)
  isplitr; · iexact HK
  isplitl [HP]; · iexact HP
  isplitl [Ho]; · iexact Ho
  rw [show recvO c [] = 0 from rfl, add_zero]
  iintro ⟨HQ, Ho⟩
  ihave HD := (done_intro c) $$ [HaS HQ]
  · isplitl [HaS] <;> iassumption
  ihave HE := (exit_intro m ρ c) $$ HtE
  imod (close_unused m ρ K c (iSend c) (if_pos rfl)) $$ [HaSc] with HzS
  · isplitr; · iexact HK
    iexact HaSc
  imod (close_unused m ρ K c (iRecv c) (if_pos rfl)) $$ [HaRc] with HzR
  · isplitr; · iexact HK
    iexact HaRc
  ihave HR := (recv_intro m ρ c) $$ [Hsc HzR HaR HcR]
  · isplitl [Hsc HzR]; · (isplitl [Hsc] <;> iassumption)
    isplitl [HaR] <;> iassumption
  iapply Hk
  unfold keep
  isplitr [HR Ho Hx]
  · isplitl [Hbc]; · iexact Hbc
    isplitl [HD]; · iexact HD
    isplitl [HzS]; · iexact HzS
    isplitl [Hz]; · iexact Hz
    isplitl [HaE]; · iexact HaE
    isplitl [HcE]; · iexact HcE
    iexact HE
  isplitl [HR]; · iexact HR
  isplitl [Ho]; · iexact Ho
  iexact Hx

/-- What the device holds after the last point: the copied block and the landing buffer, and every semaphore of the exchange at zero. -/
def fin (c : Dev nD) : sProp 𝕄 :=
  iprop(bPts c (xbf m ρ c) ∗ (((c : Thread nD τ).loc cc0_scratch1) ↦{fullShare} (landed m ρ c))
    ∗ (bigSep Finset.univ fun o : OI => semVal (kcell (c, .inl o)) 0) ∗ semVal (kcell (c, iBar)) 0)

theorem fin_intro (c : Dev nD) :
    iprop((rowsPts c c (xbf m ρ c) ∗ bigSep (Finset.univ.erase c) fun k => rowsPts c k (xbf m ρ c))
        ∗ (bigSep Finset.univ fun s => slotPts c s (landed m ρ c))
        ∗ ((semVal (kcell (c, iSend c)) 0 ∗ bigSep (Finset.univ.erase c) fun s => semVal (kcell (c, iSend s)) 0)
          ∗ (bigSep Finset.univ fun s => semVal (kcell (c, iRecv s)) 0) ∗ semVal (kcell (c, iExit)) 0)
        ∗ semVal (kcell (c, iBar)) 0) ⊢ fin m ρ c := by
  unfold fin
  rw [b_rows, slots_split, split_own, bigSep_univ_at (fun s : Fin 32 => (semVal (kcell (c, iSend s)) 0 : sProp 𝕄)) c]

/-- The last point's extra part: the copies' ends, the exit handshake, the activation. -/
theorem epi_wp (K : Dev nD × CI → ℕ) (c : Dev nD) (arg3 : Memref sig .tc .vmem S256x4096 .f32) (X : Vec F S256x4096 .f32) (Kt : Unit → sProp 𝕄) :
    iprop(Know m ρ K ∗ keep m ρ c ∗ bigSep Finset.univ (recvSt m ρ c 8) ∗ owing c (exitO c peers) ∗ owns (c : Thread nD τ) arg3 fullShare X
        ∗ ((fin m ρ c ∗ owing c 0 ∗ owns (c : Thread nD τ) arg3 fullShare (k0_pay1 X)) -∗ Kt ⟨⟩))
      ⊢ WP c (epi arg3 bM (Memref.isWhole_whole _) rM (Memref.isWhole_whole _) cc0_scratch2 cc0_scratch4 c) Kt := by
  unfold epi keep
  iintro ⟨#HK, ⟨Hbc, HD, HzS, HzB, HaE, HcE, HE⟩, HR, Ho, HX, Hk⟩
  iapply (seq_rule c (doneStep bM (Memref.isWhole_whole _) rM (Memref.isWhole_whole _) cc0_scratch2 c) (Know m ρ K) (doneP (F := F) c) (doneQ m ρ c)
    (fun _ => owing c (exitO c peers)) Kt (done_step m ρ K c (exitO c peers) (above_mono (by decide) (above_exit c _)) Kt) peers _)
  isplitr; · iexact HK
  isplitl [HD]; · iexact HD
  isplitl [Ho]; · iexact Ho
  iintro ⟨HQ, Ho⟩
  iapply (seq_rule c (sigStep exitS.sem c) (Know m ρ K) (sigP m ρ c iExit) (fun _ => iprop(emp))
    (fun xs => owing c (0 + owedL c (fun d => tallyAt (kcell (d, iExit)) () 1) xs)) Kt
    (sig_step m ρ K c iExit exitS.sem rfl rfl (fun s hs => Finset.mem_erase.mpr ⟨hs.symm, Finset.mem_univ _⟩) 0 Kt) peers _)
  isplitr; · iexact HK
  isplitl [HE]; · iexact HE
  rw [show owedL c (fun d => tallyAt (kcell (d, iExit)) () 1) [] = 0 from rfl, add_zero, zero_add]
  isplitl [Ho]; · iexact Ho
  iintro ⟨-, Ho⟩
  unfold act
  simp only [semWaitWord, Prog.lift, Prog.bind_op, Prog.bind_ret, Prog.pure_eq_ret]
  iapply (wp_await m ρ K c iExit (wpE_semWait_eq 𝒱₀ (c : Thread nD τ) none Set.univ) (by
    show _ = (Finset.univ.erase c).card * 1
    rw [Finset.card_erase_of_mem (Finset.mem_univ c)]; rfl) 0 (above_zero _)) $$ [HaE HcE Ho]
  · isplitr; · iexact HK
    isplitl [HcE]; · iexact HcE
    isplitl [Ho]; · iexact Ho
    iexact HaE
  iintro ⟨Ho, HzE, -⟩
  iapply (wp_ld c arg3 hz2 inb_S256x4096_S256x4096_0_0 X) $$ HX
  iintro HX
  iapply (wp_ld c arg3 hz2 inb_S256x4096_S256x4096_0_0 X) $$ HX
  iintro HX
  iapply (wp_st c arg3 hz2 inb_S256x4096_S256x4096_0_0 X (k0_pay1 X)) $$ HX
  iintro HX
  ihave HQ := (Entails.of_eq (done_exit m ρ c)) $$ HQ
  icases HQ with ⟨Hb, HzSs⟩
  ihave HR := (Entails.of_eq (recv_exit m ρ c)) $$ HR
  icases HR with ⟨Hs, HzR⟩
  iapply (wp_done c ⟨⟩ Kt)
  iapply Hk
  isplitr [Ho HX]
  · iapply (fin_intro m ρ c)
    isplitl [Hbc Hb]; · (isplitl [Hbc] <;> iassumption)
    isplitl [Hs]; · iexact Hs
    isplitr [HzB]
    · isplitl [HzS HzSs]; · (isplitl [HzS] <;> iassumption)
      isplitl [HzR]; · iexact HzR
      iexact HzE
    iexact HzB
  isplitl [Ho]; · iexact Ho
  iexact HX

/-- What every point does after the first point's extra part, before the last point: -/
theorem rest_wp (K : Dev nD × CI → ℕ) (c : Dev nD) (i : grid0.Coords) (h7 : (i 0).val ≠ 7) (arg2 : Memref sig .tc .vmem S1024x4096 .bf16) (arg3 : Memref sig .tc .vmem S256x4096 .f32)
    (X : Vec F S256x4096 .f32) (hX : (i 0).val ≠ 0 → X = acc m ρ c ((i 0).val - 1)) (Kt : Unit → sProp 𝕄) :
    iprop(Know m ρ K ∗ bigSep Finset.univ (recvSt m ρ c (i 0).val) ∗ owing c (exitO c peers) ∗ owns (c : Thread nD τ) arg2 fullShare (wstg m ρ c (i 0).val)
        ∗ owns (c : Thread nD τ) arg3 fullShare X
        ∗ ((bigSep Finset.univ (recvSt m ρ c ((i 0).val + 1)) ∗ owing c (exitO c peers) ∗ owns (c : Thread nD τ) arg2 fullShare (wstg m ρ c (i 0).val)
            ∗ owns (c : Thread nD τ) arg3 fullShare (acc m ρ c (i 0).val)) -∗ Kt ⟨⟩))
      ⊢ WP c (rest i arg2 arg3 bM (Memref.isWhole_whole _) rM (Memref.isWhole_whole _) cc0_scratch2 cc0_scratch3 cc0_scratch4 c) Kt := by
  unfold rest
  iintro ⟨#HK, HR, Ho, Hw, HX, Hk⟩
  ihave HR := (Entails.of_eq (listed (recvSt m ρ c (i 0).val))) $$ HR
  iapply (seq_rule c (recvStep i bM (Memref.isWhole_whole _) rM (Memref.isWhole_whole _) cc0_scratch3 c) (Know m ρ K) (recvSt m ρ c (i 0).val)
    (recvSt m ρ c ((i 0).val + 1)) (fun _ => owing c (exitO c peers)) Kt (recv_step m ρ K c i (exitO c peers) (above_exit c _) Kt) peers _)
  isplitr; · iexact HK
  isplitl [HR]; · iexact HR
  isplitl [Ho]; · iexact Ho
  iintro ⟨HR, Ho⟩
  ihave HR := (Entails.of_eq (listed (recvSt m ρ c ((i 0).val + 1))).symm) $$ HR
  iapply (comp_wp m ρ c i arg2 arg3 X hX Kt _)
  isplitl [HR]; · iexact HR
  isplitl [Hw]; · iexact Hw
  isplitl [HX]; · iexact HX
  iintro ⟨HR, Hw, HX⟩
  rw [dif_neg (fun h => h7 ((cond100_iff i).mp h))]
  simp only [Prog.pure_eq_ret]
  iapply (wp_done c ⟨⟩ Kt)
  iapply Hk
  isplitl [HR]; · iexact HR
  isplitl [Ho]; · iexact Ho
  isplitl [Hw] <;> iassumption

/-- and at the last. -/
theorem last_wp (K : Dev nD × CI → ℕ) (c : Dev nD) (i : grid0.Coords) (h7 : (i 0).val = 7) (arg2 : Memref sig .tc .vmem S1024x4096 .bf16) (arg3 : Memref sig .tc .vmem S256x4096 .f32)
    (X : Vec F S256x4096 .f32) (hX : (i 0).val ≠ 0 → X = acc m ρ c ((i 0).val - 1)) (Kt : Unit → sProp 𝕄) :
    iprop(Know m ρ K ∗ keep m ρ c ∗ bigSep Finset.univ (recvSt m ρ c (i 0).val) ∗ owing c (exitO c peers) ∗ owns (c : Thread nD τ) arg2 fullShare (wstg m ρ c (i 0).val)
        ∗ owns (c : Thread nD τ) arg3 fullShare X
        ∗ ((fin m ρ c ∗ owing c 0 ∗ owns (c : Thread nD τ) arg2 fullShare (wstg m ρ c (i 0).val)
            ∗ owns (c : Thread nD τ) arg3 fullShare (outAt m ρ c)) -∗ Kt ⟨⟩))
      ⊢ WP c (rest i arg2 arg3 bM (Memref.isWhole_whole _) rM (Memref.isWhole_whole _) cc0_scratch2 cc0_scratch3 cc0_scratch4 c) Kt := by
  unfold rest
  iintro ⟨#HK, HM, HR, Ho, Hw, HX, Hk⟩
  ihave HR := (Entails.of_eq (listed (recvSt m ρ c (i 0).val))) $$ HR
  iapply (seq_rule c (recvStep i bM (Memref.isWhole_whole _) rM (Memref.isWhole_whole _) cc0_scratch3 c) (Know m ρ K) (recvSt m ρ c (i 0).val)
    (recvSt m ρ c ((i 0).val + 1)) (fun _ => owing c (exitO c peers)) Kt (recv_step m ρ K c i (exitO c peers) (above_exit c _) Kt) peers _)
  isplitr; · iexact HK
  isplitl [HR]; · iexact HR
  isplitl [Ho]; · iexact Ho
  iintro ⟨HR, Ho⟩
  ihave HR := (Entails.of_eq (listed (recvSt m ρ c ((i 0).val + 1))).symm) $$ HR
  iapply (comp_wp m ρ c i arg2 arg3 X hX Kt _)
  isplitl [HR]; · iexact HR
  isplitl [Hw]; · iexact Hw
  isplitl [HX]; · iexact HX
  iintro ⟨HR, Hw, HX⟩
  rw [dif_pos ((cond100_iff i).mpr h7)]
  iapply (epi_wp m ρ K c arg3 (acc m ρ c (i 0).val) Kt)
  isplitr; · iexact HK
  isplitl [HM]; · iexact HM
  isplitl [HR]; · rw [h7]; iexact HR
  isplitl [Ho]; · iexact Ho
  isplitl [HX]; · iexact HX
  iintro ⟨HF, Ho, HX⟩
  iapply Hk
  isplitl [HF]; · iexact HF
  isplitl [Ho]; · iexact Ho
  isplitl [Hw]; · iexact Hw
  rw [h7]
  iexact HX

end Cert.KernelIdeal.Exchange

end
-- ==== Proof.Obligation.lean ====
/-
# The body, as the pipeline asks for it

What each window's staging buffer holds after a point, what the device holds between points and what it still owes,
and that the body takes each point to the next.
-/
module

public import proofs.«01_k».proof.Proof.Point
public import proofs.«01_k».proof.Proof.Gen.KernelIdeal.Points
public import Idealize.ShloMosaic.Lib.Pipeline.FrameBody

@[expose] public section

set_option maxRecDepth 16384

noncomputable section

namespace Cert.KernelIdeal.Exchange

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device starts from: what it knows of the exchange's semaphores, its positions and tokens, the credit of what it will be paid, the levels. -/
def start (c : Dev nD) : sProp 𝕄 :=
  iprop((∃ K, records m ρ K ∗ linear (F := F) c) ∗ credits (F := F) c ∗ levAts L lv)

/-- Before the first point: that, and the two scratch buffers at any contents; -/
def Φ₀ (c : Dev nD) : sProp 𝕄 :=
  iprop(start m ρ c ∗ (∃ f, bPts c f) ∗ ∃ f, ((c : Thread nD τ).loc cc0_scratch1) ↦{fullShare} f)
/-- before point `n`, later. -/
def Φₘ (c : Dev nD) (n : ℕ) : sProp 𝕄 :=
  iprop(∃ K, Know m ρ K ∗ keep m ρ c ∗ bigSep Finset.univ (recvSt m ρ c n))

/-- What the body leaves in the accumulator's buffer at point `n`. -/
def outs (c : Dev nD) (n : ℕ) : Vec F S256x4096 .f32 := if n = 7 then outAt m ρ c else acc m ρ c n

def inv (c : Dev nD) (n : ℕ) : sProp 𝕄 := if n = 0 then Φ₀ m ρ c else if n = 8 then fin m ρ c else Φₘ m ρ c n
def owedAt (c : Dev nD) (n : ℕ) : CellTallies nD τ sig Unit := if n = 0 then O₀ c else if n = 8 then 0 else exitO c peers

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xstg m ρ c
    | ⟨1, _⟩ => wstg m ρ c t.val
    | ⟨2, _⟩ => outs m ρ c t.val
  Φ t := inv m ρ c t.val
  q _ := fullShare
  owed t := owedAt c t.val

/-! ## What the body is handed at a point -/

theorem never_idle : ∀ (w : Fin 3) (i : grid0.Coords), cfg0.idle w i = false := by decide +kernel

theorem pt_val (t : Fin cfg0.N) : pt t.val = t := Fin.ext (Nat.mod_eq_of_lt (lt_of_lt_of_eq t.isLt N_0))

theorem before_x (c : Dev nD) (t : Fin cfg0.N) (d) : (dats m ρ 0 c).before (0 : Fin 3) t d = xstg m ρ c :=
  ((dats m ρ 0 c).before_in_eq_fetched (0 : Fin 3) rfl (fun _ => rfl) (fun _ _ _ => rfl) (fun _ => rfl) t d).trans (by
    unfold Dat.fetched Dat.blockOf; dsimp only [dats]; rfl)

theorem before_w (c : Dev nD) (t : Fin cfg0.N) (d) : (dats m ρ 0 c).before (1 : Fin 3) t d = wstg m ρ c t.val := by
  rw [(dats m ρ 0 c).before_fetched (1 : Fin 3) t (fetch0_1 t)]
  unfold Dat.fetched Dat.blockOf wstg
  rw [pt_val]
  dsimp only [dats]
  rfl

theorem before_o (c : Dev nD) (t : Fin cfg0.N) (ht : t.val ≠ 0) (d) : (dats m ρ 0 c).before (2 : Fin 3) t d = acc m ρ c (t.val - 1) := by
  have hlt : t.val < 8 := lt_of_lt_of_eq t.isLt N_0
  rw [(dats m ρ 0 c).before_out_kept (2 : Fin 3) rfl t ht
    (Bool.eq_false_iff.mpr fun h => by
      have := (flush0_2 _).mp h
      have e : (t.val - 1) % 8 = 7 := this
      omega) (never_idle 2) (fun _ _ => rfl)]
  show outs m ρ c (t.val - 1) = _
  exact if_neg (by omega)

theorem owes_out (c : Dev nD) (t : Fin (cfg0.N + 1)) : (dats m ρ 0 c).owesAt () t ⊢ owing c (owedAt c t.val) := by
  unfold Dat.owesAt Pipeline.owesWithin owing
  iintro ⟨%W, %hW, H⟩
  iexists W; iexact H
theorem owes_in (c : Dev nD) (t : Fin (cfg0.N + 1)) : owing c (owedAt c t.val) ⊢ (dats m ρ 0 c).owesAt () t := by
  unfold Dat.owesAt Pipeline.owesWithin owing
  iintro ⟨%W, H⟩
  iexists W
  isplitr; · ipureintro; exact fun _ _ => Or.inl trivial
  iexact H

/-! ## The body at a point -/

theorem main_wp (c : Dev nD) (t : Fin cfg0.N) (arg1 : Memref sig .tc .vmem S8192x256 .bf16) (arg2 : Memref sig .tc .vmem S1024x4096 .bf16) (arg3 : Memref sig .tc .vmem S256x4096 .f32)
    (X : Vec F S256x4096 .f32) (hX : t.val ≠ 0 → X = acc m ρ c (t.val - 1)) (Kt : Unit → sProp 𝕄) :
    iprop(inv m ρ c t.val ∗ owing c (owedAt c t.val) ∗ owns (c : Thread nD τ) arg1 fullShare (xstg m ρ c)
        ∗ owns (c : Thread nD τ) arg2 fullShare (wstg m ρ c t.val) ∗ owns (c : Thread nD τ) arg3 fullShare X
        ∗ ((inv m ρ c (t.val + 1) ∗ owing c (owedAt c (t.val + 1)) ∗ owns (c : Thread nD τ) arg1 fullShare (xstg m ρ c)
            ∗ owns (c : Thread nD τ) arg2 fullShare (wstg m ρ c t.val) ∗ owns (c : Thread nD τ) arg3 fullShare (outs m ρ c t.val)) -∗ Kt ⟨⟩))
      ⊢ WP c (Steps.main (grid0.coords t) arg1 arg2 arg3 bM (Memref.isWhole_whole _) rM (Memref.isWhole_whole _) cc0_scratch2 cc0_scratch3 cc0_scratch4) Kt := by
  have hlt : t.val < 8 := lt_of_lt_of_eq t.isLt N_0
  have hc := coord_val t
  generalize grid0.coords t = i at hc ⊢
  generalize t.val = n at hX hlt hc ⊢
  subst hc
  have e8 : inv m ρ c 8 = fin m ρ c := rfl
  unfold Steps.main
  simp only [Prog.lift, Prog.bind_op, Prog.bind_ret, Prog.pure_eq_ret, wp_deviceId]
  rcases Nat.eq_zero_or_pos (i 0).val with h0 | h0
  · rw [dif_pos ((cond1_iff i).mpr h0)]
    rw [show inv m ρ c (i 0).val = Φ₀ m ρ c by rw [h0]; rfl, show owedAt c (i 0).val = O₀ c by rw [h0]; rfl,
      show inv m ρ c ((i 0).val + 1) = Φₘ m ρ c ((i 0).val + 1) by rw [h0]; rfl, show owedAt c ((i 0).val + 1) = exitO c peers by rw [h0]; rfl,
      show outs m ρ c (i 0).val = acc m ρ c (i 0).val by rw [h0]; rfl]
    unfold Φ₀ start Φₘ
    iintro ⟨⟨⟨⟨%K, #HR, HL⟩, HC, #Hl⟩, Hb, Hs⟩, Ho, Hx, Hw, HX, Hk⟩
    iapply (pro_wp m ρ K c i ((cond1_iff i).mpr h0) arg1 Kt _)
    isplitr
    · unfold Know; isplitr; · iexact HR
      iexact Hl
    isplitl [HL]; · iexact HL
    isplitl [HC]; · iexact HC
    isplitl [Hb]; · iexact Hb
    isplitl [Hs]; · iexact Hs
    isplitl [Ho]; · iexact Ho
    isplitl [Hx]; · iexact Hx
    iintro ⟨HM, HS, Ho, Hx⟩
    iapply (rest_wp m ρ K c i (by omega) arg2 arg3 X hX Kt)
    isplitr
    · unfold Know; isplitr; · iexact HR
      iexact Hl
    isplitl [HS]; · rw [h0]; iexact HS
    isplitl [Ho]; · iexact Ho
    isplitl [Hw]; · iexact Hw
    isplitl [HX]; · iexact HX
    iintro ⟨HS, Ho, Hw, HX⟩
    iapply Hk
    isplitl [HM HS]
    · iexists K
      isplitr
      · unfold Know; isplitr; · iexact HR
        iexact Hl
      isplitl [HM] <;> iassumption
    isplitl [Ho]; · iexact Ho
    isplitl [Hx]; · iexact Hx
    isplitl [Hw]; · iexact Hw
    iexact HX
  · rw [dif_neg (fun h => by have := (cond1_iff i).mp h; omega)]
    rw [show inv m ρ c (i 0).val = Φₘ m ρ c (i 0).val from (if_neg (by omega)).trans (if_neg (by omega)),
      show owedAt c (i 0).val = exitO c peers from (if_neg (by omega)).trans (if_neg (by omega))]
    by_cases h7 : (i 0).val = 7
    · rw [show inv m ρ c ((i 0).val + 1) = fin m ρ c by rw [h7]; rfl, show owedAt c ((i 0).val + 1) = 0 by rw [h7]; rfl,
        show outs m ρ c (i 0).val = outAt m ρ c by rw [h7]; rfl]
      unfold Φₘ
      iintro ⟨⟨%K, #HK, HM, HS⟩, Ho, Hx, Hw, HX, Hk⟩
      iapply (last_wp m ρ K c i h7 arg2 arg3 X hX Kt)
      isplitr; · iexact HK
      isplitl [HM]; · iexact HM
      isplitl [HS]; · iexact HS
      isplitl [Ho]; · iexact Ho
      isplitl [Hw]; · iexact Hw
      isplitl [HX]; · iexact HX
      iintro ⟨HF, Ho, Hw, HX⟩
      iapply Hk
      isplitl [HF]; · iexact HF
      isplitl [Ho]; · iexact Ho
      isplitl [Hx]; · iexact Hx
      isplitl [Hw]; · iexact Hw
      iexact HX
    · rw [show inv m ρ c ((i 0).val + 1) = Φₘ m ρ c ((i 0).val + 1) from (if_neg (by omega)).trans (if_neg (by omega)),
        show owedAt c ((i 0).val + 1) = exitO c peers from (if_neg (by omega)).trans (if_neg (by omega)),
        show outs m ρ c (i 0).val = acc m ρ c (i 0).val from if_neg h7]
      unfold Φₘ
      iintro ⟨⟨%K, #HK, HM, HS⟩, Ho, Hx, Hw, HX, Hk⟩
      iapply (rest_wp m ρ K c i h7 arg2 arg3 X hX Kt)
      isplitr; · iexact HK
      isplitl [HS]; · iexact HS
      isplitl [Ho]; · iexact Ho
      isplitl [Hw]; · iexact Hw
      isplitl [HX]; · iexact HX
      iintro ⟨HS, Ho, Hw, HX⟩
      iapply Hk
      isplitl [HM HS]
      · iexists K
        isplitr; · iexact HK
        isplitl [HM] <;> iassumption
      isplitl [Ho]; · iexact Ho
      isplitl [Hx]; · iexact Hx
      isplitl [Hw]; · iexact Hw
      iexact HX

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- What the pipeline hands the body at a point, and takes back. -/
def ptPre (c : Dev nD) (t : Fin cfg0.N) : sProp 𝕄 :=
  iprop(inv m ρ c t.val ∗ (dats m ρ 0 c).owesAt () t.castSucc
    ∗ (∃ d, owns (c : Thread nD τ) (st0_0 t) fullShare ((dats m ρ 0 c).before (0 : Fin 3) t d))
    ∗ (∃ d, owns (c : Thread nD τ) (st0_1 t) fullShare ((dats m ρ 0 c).before (1 : Fin 3) t d))
    ∗ (∃ d, owns (c : Thread nD τ) (st0_2 t) fullShare ((dats m ρ 0 c).before (2 : Fin 3) t d)))
def ptPost (c : Dev nD) (t : Fin cfg0.N) : sProp 𝕄 :=
  iprop(inv m ρ c (t.val + 1) ∗ (dats m ρ 0 c).owesAt () t.succ
    ∗ owns (c : Thread nD τ) (st0_0 t) fullShare (xstg m ρ c)
    ∗ owns (c : Thread nD τ) (st0_1 t) fullShare (wstg m ρ c t.val)
    ∗ owns (c : Thread nD τ) (st0_2 t) fullShare (outs m ρ c t.val))

theorem body_wp (c : Dev nD) (t : Fin cfg0.N) : ptPre m ρ c t ⊢ WP c (bodyAt0 (F := F) t) (fun _ => ptPost m ρ c t) := by
  unfold ptPre ptPost bodyAt0
  rw [body_seq]
  iintro ⟨HI, Ho, ⟨%d0, Hx⟩, ⟨%d1, Hw⟩, ⟨%d2, HX⟩⟩
  iapply (main_wp m ρ c t (st0_0 t) (st0_1 t) (st0_2 t) ((dats m ρ 0 c).before (2 : Fin 3) t d2) (fun h => before_o m ρ c t h d2) _)
  isplitl [HI]; · iexact HI
  isplitl [Ho]; · iapply (owes_out m ρ c t.castSucc); iexact Ho
  isplitl [Hx]; · rw [before_x]; iexact Hx
  isplitl [Hw]; · rw [before_w]; iexact Hw
  isplitl [HX]; · iexact HX
  iintro ⟨HI, Ho, Hx, Hw, HX⟩
  isplitl [HI]; · iexact HI
  isplitl [Ho]; · iapply (owes_in m ρ c t.succ); iexact Ho
  isplitl [Hx]; · iexact Hx
  isplitl [Hw]; · iexact Hw
  iexact HX

/-- The library's body obligation on core `c`. -/
theorem body_obligation (c : Dev nD) : BodyObligation (dats (F := F) m ρ 0 c) (defs₀ (F := F)) 𝒱₀ () Set.univ := fun t => by
  rw [bigSep_W, bigSep_W]
  rw [show cfg0.idle (2 : Fin 3) (cfg0.grid.coords t) = false from never_idle 2 _]
  exact body_wp m ρ c t

end Cert.KernelIdeal.Exchange

end
-- ==== Proof.Run.lean ====
/-
# The launch, and the run

How the exchange's semaphores, tokens and credits are dealt to the devices at launch, and the whole program's run from
them: for any float values, every device's result array at the computed contents, its arguments unchanged and every
semaphore at zero.
-/
module

public import proofs.«01_k».proof.Proof.Obligation
public import Idealize.ShloMosaic.Lib.Pipeline.CollectiveSegs

@[expose] public section

set_option maxRecDepth 16384

noncomputable section

namespace Cert.KernelIdeal.Exchange

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens at launch -/

def ringCells : Finset (GSem nD τ sig) := Finset.univ.map ⟨kcell, kcell_injective⟩

/-- A token for every cell and every device that might pay it. -/
abbrev tokOf (x : (Dev nD × CI) × Fin 32) : GSem nD τ sig × ℕ × Fin 32 := (kcell x.1, 0, x.2)
theorem tokOf_injective : Function.Injective tokOf := fun x y h => by
  have h1 : x.1 = y.1 := kcell_injective (congrArg Prod.fst h)
  have h2 : x.2 = y.2 := congrArg (fun z : GSem nD τ sig × ℕ × Fin 32 => z.2.2) h
  exact Prod.ext h1 h2
def ringToks : Finset (GSem nD τ sig × ℕ × Fin 32) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 := bigSep Finset.univ fun i : CI => bigSep Finset.univ fun d : Fin 32 => dutyTok ER (kcell (c, i)) 0 d

/-- What the launch element deals device `c`. -/
def G (c : Dev nD) : sProp 𝕄 :=
  iprop((bigSep Finset.univ fun i : CI => roundState ER (sched m ρ) (kcell (c, i)) 0)
    ∗ (bigSep Finset.univ fun i : CI => iprop(atPos ER (kcell (c, i)) 0 ∅ 0 ∗ reached ER (kcell (c, i)) 0)) ∗ toks (F := F) c)

/-- What the step over all devices makes of it. -/
def G' (c : Dev nD) : sProp 𝕄 := iprop(∃ K, records m ρ K ∗ linear (F := F) c)

theorem fund_ring : BI.own (ER (initOf ringCells ringToks)) ⊢ (|==> bigSep Finset.univ (G m ρ) : sProp 𝕄) := by
  have hX (X : GSem nD τ sig → sProp 𝕄) : bigSep ringCells X = bigSep Finset.univ fun c : Dev nD => bigSep Finset.univ fun i : CI => X (kcell (c, i)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (kcell (c, iBar)) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun i : CI => semVal (kcell (c, i)) 0 : sProp 𝕄) := by
  rw [unscopedSems0_eq, split_all]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (sched m ρ) κ (kcell (c, i))))
          ∗ (bigSep Finset.univ fun i : CI => iprop(atPos ER (kcell (c, i)) 0 ∅ 0 ∗ reached ER (kcell (c, i)) 0)) ∗ toks (F := F) c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun i : CI => semVal (kcell (c, i)) 0) ∗ bigSep Finset.univ fun i : CI => roundState ER (sched m ρ) (kcell (c, i)) 0)
      ⊢ (|={Set.univ}=> bigSep Finset.univ fun i : CI => iprop(∃ κ : ℕ, cellInv ER (sched m ρ) κ (kcell (c, i))) : sProp 𝕄) from by
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Of a device's own cells' tokens, those that somebody uses. -/
theorem toks_used (c : Dev nD) : toks (F := F) c
    ⊢ iprop((bigSep (Finset.univ.erase c) fun d : Fin 32 => dutyTok ER (kcell (c, iBar)) 0 d) ∗ (bigSep (Finset.univ.erase c) fun d : Fin 32 => dutyTok ER (kcell (c, iExit)) 0 d)
        ∗ (bigSep (Finset.univ.erase c) fun k : Fin 32 => dutyTok ER (kcell (c, iSend k)) 0 c) ∗ bigSep (Finset.univ.erase c) fun k : Fin 32 => dutyTok ER (kcell (c, iRecv k)) 0 k) := by
  have h1 : (bigSep Finset.univ fun k : Fin 32 => bigSep Finset.univ fun d : Fin 32 => (dutyTok ER (kcell (c, iSend k)) 0 d : sProp 𝕄))
      ⊢ bigSep (Finset.univ.erase c) fun k : Fin 32 => dutyTok ER (kcell (c, iSend k)) 0 c :=
    (bigSep_subset (Finset.subset_univ _)).trans (bigSep_mono fun k _ => bigSep_elim (Φ := fun d : Fin 32 => (dutyTok ER (kcell (c, iSend k)) 0 d : sProp 𝕄)) (Finset.mem_univ c))
  have h2 : (bigSep Finset.univ fun k : Fin 32 => bigSep Finset.univ fun d : Fin 32 => (dutyTok ER (kcell (c, iRecv k)) 0 d : sProp 𝕄))
      ⊢ bigSep (Finset.univ.erase c) fun k : Fin 32 => dutyTok ER (kcell (c, iRecv k)) 0 k :=
    (bigSep_subset (Finset.subset_univ _)).trans (bigSep_mono fun k _ => bigSep_elim (Φ := fun d : Fin 32 => (dutyTok ER (kcell (c, iRecv k)) 0 d : sProp 𝕄)) (Finset.mem_univ k))
  have h3 (i : CI) : (bigSep Finset.univ fun d : Fin 32 => (dutyTok ER (kcell (c, i)) 0 d : sProp 𝕄))
      ⊢ bigSep (Finset.univ.erase c) fun d : Fin 32 => dutyTok ER (kcell (c, i)) 0 d := bigSep_subset (Finset.subset_univ _)
  unfold toks
  rw [split_all, split_own]
  iintro ⟨⟨HS, HR, HE⟩, HB⟩
  isplitl [HB]; · iapply (h3 iBar); iexact HB
  isplitl [HE]; · iapply (h3 iExit); iexact HE
  isplitl [HS]; · iapply h1; iexact HS
  iapply h2; iexact HR

omit [FloatOps F] in
/-- Every token dealt to the device that pays with it. -/
theorem toks_around : (bigSep Finset.univ fun c : Dev nD => toks (F := F) c) ⊢ bigSep Finset.univ fun c : Dev nD => payToks (F := F) c := by
  have hB : (bigSep Finset.univ fun c : Dev nD => bigSep (Finset.univ.erase c) fun d : Dev nD => (dutyTok ER (kcell (c, iBar)) 0 d : sProp 𝕄))
      = bigSep Finset.univ fun c : Dev nD => bigSep (Finset.univ.erase c) fun s : Dev nD => dutyTok ER (kcell (s, iBar)) 0 c := bigSep_erase_comm _
  have hE : (bigSep Finset.univ fun c : Dev nD => bigSep (Finset.univ.erase c) fun d : Dev nD => (dutyTok ER (kcell (c, iExit)) 0 d : sProp 𝕄))
      = bigSep Finset.univ fun c : Dev nD => bigSep (Finset.univ.erase c) fun s : Dev nD => dutyTok ER (kcell (s, iExit)) 0 c := bigSep_erase_comm _
  have hR : (bigSep Finset.univ fun c : Dev nD => bigSep (Finset.univ.erase c) fun d : Dev nD => (dutyTok ER (kcell (c, iRecv d)) 0 d : sProp 𝕄))
      = bigSep Finset.univ fun c : Dev nD => bigSep (Finset.univ.erase c) fun s : Dev nD => dutyTok ER (kcell (s, iRecv c)) 0 c := bigSep_erase_comm _
  have hP : (bigSep Finset.univ fun c : Dev nD => payToks (F := F) c)
      = iprop((bigSep Finset.univ fun c : Dev nD => bigSep (Finset.univ.erase c) fun s : Dev nD => dutyTok ER (kcell (s, iBar)) 0 c)
        ∗ (bigSep Finset.univ fun c : Dev nD => bigSep (Finset.univ.erase c) fun s : Dev nD => dutyTok ER (kcell (s, iExit)) 0 c)
        ∗ (bigSep Finset.univ fun c : Dev nD => bigSep (Finset.univ.erase c) fun s : Dev nD => dutyTok ER (kcell (c, iSend s)) 0 c)
        ∗ bigSep Finset.univ fun c : Dev nD => bigSep (Finset.univ.erase c) fun s : Dev nD => dutyTok ER (kcell (s, iRecv c)) 0 c) := by
    unfold payToks; rw [bigSep_sep', bigSep_sep', bigSep_sep']
  rw [hP, ← hB, ← hE, ← hR, ← bigSep_sep', ← bigSep_sep', ← bigSep_sep']
  exact bigSep_mono fun c _ => toks_used (F := F) c

theorem regroup :
    (bigSep Finset.univ fun c : Dev nD => iprop((bigSep Finset.univ fun i : CI => iprop(∃ κ : ℕ, cellInv ER (sched m ρ) κ (kcell (c, i))))
          ∗ (bigSep Finset.univ fun i : CI => iprop(atPos ER (kcell (c, i)) 0 ∅ 0 ∗ reached ER (kcell (c, i)) 0)) ∗ toks (F := F) c) : sProp 𝕄)
      ⊢ bigSep Finset.univ (G' m ρ) := by
  have hS : (bigSep Finset.univ fun c : Dev nD => bigSep Finset.univ fun i : CI => iprop(atPos ER (kcell (c, i)) 0 ∅ 0 ∗ reached ER (kcell (c, i)) 0) : sProp 𝕄)
      = iprop((bigSep Finset.univ fun c : Dev nD => bigSep Finset.univ fun i : CI => atPos ER (kcell (c, i)) 0 ∅ 0)
          ∗ bigSep Finset.univ fun ci : Dev nD × CI => reached ER (kcell ci) 0) := by
    rw [bigSep_univ_prod (fun ci : Dev nD × CI => (reached ER (kcell ci) 0 : sProp 𝕄)), ← bigSep_sep']
    exact bigSep_congr fun c _ => bigSep_sep' _ _ _
  rw [bigSep_sep', bigSep_sep', ← bigSep_univ_prod (fun ci : Dev nD × CI => iprop(∃ κ : ℕ, cellInv ER (sched m ρ) κ (kcell ci))), hS]
  iintro ⟨HI, ⟨Hat, #HR⟩, Htok⟩
  ihave HK := (BI.bigSep_exists_pi Finset.univ (fun (ci : Dev nD × CI) (κ : ℕ) => (cellInv ER (sched m ρ) κ (kcell ci) : sProp 𝕄))) $$ HI
  icases HK with ⟨%K, #HI⟩
  ihave Htk := (toks_around (F := F)) $$ Htok
  have hP : iprop(records m ρ K ∗ bigSep Finset.univ (linear (F := F))) ⊢ bigSep Finset.univ (G' m ρ) :=
    (sep_mono_left (BI.bigSep_of_persistent Finset.univ (records m ρ K))).trans (by
      rw [← bigSep_sep']
      exact bigSep_mono fun c _ => by
        show iprop(records m ρ K ∗ linear (F := F) c) ⊢ G' m ρ c
        unfold G'
        iintro H; iexists K; iexact H)
  iapply hP
  isplitr
  · unfold records; isplitl; · iexact HI
    iexact HR
  · have hL : bigSep Finset.univ (linear (F := F)) = iprop((bigSep Finset.univ fun c : Dev nD => bigSep Finset.univ fun i : CI => atPos ER (kcell (c, i)) 0 ∅ 0)
        ∗ bigSep Finset.univ fun c : Dev nD => payToks (F := F) c) := bigSep_sep' _ _ _
    iapply (Entails.of_eq hL.symm)
    isplitl [Hat]; · iexact Hat
    iexact Htk

/-- The step over every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem owedL_sum (d : Fin 32) (f : Fin 32 → CellTallies nD τ sig Unit) (g : GSem nD τ sig) :
    owedL d f peers g () = ∑ x : Fin 32, if x = d then 0 else f x g () := by
  have h : ∀ xs, owedL d f xs g () = (xs.map fun x => if x = d then 0 else f x g ()).sum := by
    intro xs
    induction xs with
    | nil => rfl
    | cons x xs ih =>
      show (owedL d f xs + (if x = d then 0 else f x)) g () = _
      rw [Pi.add_apply, Finsupp.add_apply, ih, List.map_cons, List.sum_cons, Nat.add_comm]
      congr 1
      split <;> rfl
  rw [h, ← List.sum_toFinset _ (by decide), show peers.toFinset = (Finset.univ : Finset (Fin 32)) by decide]

theorem owed_at (d c : Fin 32) (i j : CI) (a : ℕ) :
    owedL d (fun x => tallyAt (kcell (x, j)) () a) peers (kcell (c, i)) () = if c ≠ d ∧ i = j then a else 0 := by
  rw [owedL_sum, Finset.sum_eq_single c]
  · rw [tallyAt_apply]
    by_cases h : c = d
    · rw [if_pos h, if_neg (fun h' => h'.1 h)]
    · rw [if_neg h]
      by_cases hij : i = j
      · subst hij; rw [if_pos ⟨rfl, rfl⟩, if_pos ⟨h, rfl⟩]
      · rw [if_neg (fun h' => hij (congrArg Prod.snd (kcell_injective h'.1))), if_neg (fun h' => hij h'.2)]
  · intro x _ hx
    split
    · rfl
    · rw [tallyAt_apply, if_neg (fun h' => hx (congrArg Prod.fst (kcell_injective h'.1)).symm)]
  · exact fun h => absurd (Finset.mem_univ c) h

theorem owed_all (d c : Fin 32) (i : CI) : O₀ d (kcell (c, i)) ()
    = ((if c ≠ d ∧ i = iExit then 1 else 0) + (if c ≠ d ∧ i = iRecv d then Nc else 0)) + (if c ≠ d ∧ i = iBar then 1 else 0) := by
  unfold O₀ exitO recvO barO
  rw [Pi.add_apply, Finsupp.add_apply, Pi.add_apply, Finsupp.add_apply]
  exact congrArg₂ _ (congrArg₂ _ (owed_at d c i iExit 1) (owed_at d c i (iRecv d) Nc)) (owed_at d c i iBar 1)

theorem launch_at (c : Dev nD) (i : CI) (n : ℕ) (h : ∑ d : Fin 32, O₀ d (kcell (c, i)) () = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same]
  exact h

theorem count_others : ∀ c : Fin 32, (∑ d : Fin 32, if c ≠ d then 1 else 0) = 31 := by decide

theorem launch_bar (c : Dev nD) : ∑ d : Fin 32, O₀ d (kcell (c, iBar)) () = 31 := by
  rw [← count_others c]
  refine Finset.sum_congr rfl fun d _ => ?_
  rw [owed_all, if_neg (fun h => by cases h.2), if_neg (fun h => by cases h.2)]
  simp only [Nat.zero_add]
  exact if_congr ⟨And.left, fun h => ⟨h, trivial⟩⟩ rfl rfl
theorem launch_exit (c : Dev nD) : ∑ d : Fin 32, O₀ d (kcell (c, iExit)) () = 31 := by
  rw [← count_others c]
  refine Finset.sum_congr rfl fun d _ => ?_
  rw [owed_all, if_neg (c := c ≠ d ∧ iExit = iRecv d) (fun h => by cases h.2), if_neg (c := c ≠ d ∧ iExit = iBar) (fun h => by cases h.2)]
  simp only [Nat.add_zero]
  exact if_congr ⟨And.left, fun h => ⟨h, trivial⟩⟩ rfl rfl
theorem launch_recv (c s : Dev nD) (h : s ≠ c) : ∑ d : Fin 32, O₀ d (kcell (c, iRecv s)) () = Nc := by
  rw [Finset.sum_eq_single s]
  · rw [owed_all, if_neg (fun h => by cases h.2), if_pos ⟨h.symm, rfl⟩, if_neg (fun h => by cases h.2), Nat.zero_add, Nat.add_zero]
  · intro d _ hd
    rw [owed_all, if_neg (fun h => by cases h.2), if_neg (fun h' => hd (by have := h'.2; injection this with h1; injection h1 with h2; injection h2 with h3; exact h3.symm)), if_neg (fun h => by cases h.2)]
    rfl
  · exact fun h => absurd (Finset.mem_univ s) h

theorem creds (c : Dev nD) : (Pipeline.launchCred O₀ c : sProp 𝕄) ⊢ credits (F := F) c := by
  have hR : (bigSep Finset.univ fun k : Fin 32 => (cred (tallyOn (kcell (c, iRecv k)) (launchCredit (Pipeline.owing O₀) 0 (kcell (c, iRecv k)))) : sProp 𝕄))
      ⊢ bigSep (Finset.univ.erase c) fun s => cred (tallyAt (kcell (c, iRecv s)) () Nc) :=
    (bigSep_subset (Finset.subset_univ _)).trans (BIBase.Entails.of_eq (bigSep_congr fun s hs => by rw [launch_at c (iRecv s) Nc (launch_recv c s (Finset.mem_erase.mp hs).1)]))
  have hM : (Pipeline.launchCred O₀ c : sProp 𝕄) ⊢ bigSep Finset.univ fun i : CI => cred (tallyOn (kcell (c, i)) (launchCredit (Pipeline.owing O₀) 0 (kcell (c, i)))) := by
    unfold Pipeline.launchCred
    refine (bigSep_subset (Finset.subset_univ (Finset.univ.map ⟨csem, csem_injective⟩))).trans ?_
    rw [bigSep_map]
    exact fun _ h => h
  refine hM.trans ?_
  unfold credits
  rw [split_all, split_own, launch_at c iBar 31 (launch_bar c), launch_at c iExit 31 (launch_exit c)]
  iintro ⟨⟨-, HR, HE⟩, HB⟩
  isplitl [HB]; · iexact HB
  isplitl [HE]; · iexact HE
  iapply hR; iexact HR

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bPts
  iintro ⟨Hs, -, H0, H1⟩
  isplitl [Hs]; · iexact Hs
  isplitl [H0]; · iexact H0
  iexact H1

theorem phi8_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = fin m ρ c from rfl, scopedRest0_eq, unscopedSems0_eq]
  unfold fin bPts Pipeline.ownSems0
  iintro ⟨Hb, Hs, Ho, Hz⟩
  isplitl [Hz]; · iexact Hz
  isplitl [Ho]; · iexact Ho
  isplitl [Hb]; · iexists _; iexact Hb
  iexists _; iexact Hs

theorem above_owedAt (c : Dev nD) (n : ℕ) : Above 0 (owedAt c n) := by
  unfold owedAt
  split
  · exact above_O₀ c
  · split
    · exact above_zero 0
    · exact above_mono (by decide) (above_exit c _)

theorem kind_stage : ∀ (w : Fin 3) (s : Fin (spec0 w).nbuf), kind (.dma ((spec0 w).sem s)) = none := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by rw [kind_stage w s]; exact Nat.le_refl 0) _ (above_owedAt c t.val)

theorem share_eq (c : Dev nD) (w : Fin cfg0.W) : (dats m ρ 0 c).share w = fullShare := by unfold Dat.share; split <;> rfl

/-! ## The run -/

/-- What window `w`'s array of device `c` holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution of the program terminates, and
    every final state has each device's arrays at the computed contents and every semaphore counter at zero. -/
theorem run_main : θ_run defs (onTc (τ := τ) (Cert.KernelIdeal.main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ Cert.KernelIdeal.main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi8_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays after the run hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Exchange

end
-- ==== Proof.Value.lean ====
/-
# The value

What the exchange's result is at the ideal instance: the contraction in one sum over the whole contracted axis, and the
activation as one quotient.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.IdealHost
public import Idealize.ShloMosaic.Lib.Layout
public import Idealize.ShloMosaic.Lib.Pipeline.ValueKit

@[expose] public section

set_option maxRecDepth 16384

noncomputable section

namespace Cert.KernelIdeal.Exchange

open Cert.KernelIdeal Cert.KernelIdeal.Gen Cert.KernelIdeal.Steps
open Idealize.ShloMosaic hiding ix2 ix3 eq_ix2
open Idealize.ShloMosaic.TcCoe
open Idealize.SL Idealize.SL.Sem
open Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-! ## The staged blocks, by coordinates -/

theorem index0 : ∀ a : Fin 2, win0_0.index (0 : Fin 8) a = 0 := by decide +kernel
theorem index1 : ∀ t : Fin 8, win0_1.index t (0 : Fin 2) = t.val ∧ win0_1.index t (1 : Fin 2) = 0 := by decide +kernel

/-- The argument's block is the whole array. -/
theorem xstg_apply (c : Dev nD) (r : Fin 8192) (q : Fin 256) :
    xstg m ρ c (ix2 r q : S8192x256.Idx) = m ((c : Thread nD τ).loc main_arg0) (ix2 r q : S8192x256.Idx) := by
  refine congrArg (m ((c : Thread nD τ).loc main_arg0)) (?_ : (win0_0.blk (0 : Fin 8)).view.emb (ix2 r q) = ix2 r q)
  funext a
  apply Fin.ext
  have h := index0
  fin_cases a
  · blk_simp
    rw [h 0]; simp
  · blk_simp
    rw [h 1]; simp

/-- Point `n` stages rows `1024 n` to `1024 n + 1023` of the weight. -/
theorem wstg_apply (c : Dev nD) (n : Fin 8) (a : Fin 1024) (b : Fin 4096) :
    wstg m ρ c n.val (ix2 a b : S1024x4096.Idx)
      = m ((c : Thread nD τ).loc main_arg1) (ix2 (⟨1024 * n.val + a.val, by have := a.isLt; have := n.isLt; omega⟩ : Fin 8192) b : S8192x4096.Idx) := by
  have hp : pt n.val = n := Fin.ext (Nat.mod_eq_of_lt n.isLt)
  unfold wstg
  rw [hp]
  refine congrArg (m ((c : Thread nD τ).loc main_arg1)) (?_ : (win0_1.blk n).view.emb (ix2 a b) = ix2 _ b)
  funext x
  apply Fin.ext
  have h := index1 n
  fin_cases x
  · blk_simp
    rw [h.1]; simp; omega
  · blk_simp
    rw [h.2]; simp

/-- A slot of the landing buffer: the argument of the device the slot is for, at this device's rows. -/
theorem slot_apply (c : Dev nD) (k : Fin 32) (r q : Fin 256) :
    shapeCast S256x256 (blk (landed m ρ c) k) shapeCasts_S1x256x256_S256x256 (ix2 r q : S256x256.Idx)
      = m ((k : Thread nD τ).loc main_arg0) (rowIx c r q) := by
  refine (shapeCast_dropUnit_apply (n := 2) ![256, 256] (blk (landed m ρ c) k) shapeCasts_S1x256x256_S256x256 (ix2 r q)).trans ?_
  show k0_pay2 (F := F) (xstg m ρ k) (rowIx c r q) = _
  unfold k0_pay2
  rw [shapeCast_self, shapeCast_self]
  exact xstg_apply m ρ k _ q

/-- The four slots of a point side by side. -/
theorem strip_apply (c : Dev nD) (n : Fin 8) (r : Fin 256) (k : Fin 1024) :
    concatenate S256x1024 1 [⟨S256x256, shapeCast S256x256 (blk (landed m ρ c) (kx n.val 0)) shapeCasts_S1x256x256_S256x256⟩,
        ⟨S256x256, shapeCast S256x256 (blk (landed m ρ c) (kx n.val 1)) shapeCasts_S1x256x256_S256x256⟩,
        ⟨S256x256, shapeCast S256x256 (blk (landed m ρ c) (kx n.val 2)) shapeCasts_S1x256x256_S256x256⟩,
        ⟨S256x256, shapeCast S256x256 (blk (landed m ρ c) (kx n.val 3)) shapeCasts_S1x256x256_S256x256⟩]
        concatenates_S256x256_S256x256_S256x256_S256x256_S256x1024_d1 (ix2 r k : S256x1024.Idx)
      = m ((((⟨(1024 * n.val + k.val) / 256, by have := n.isLt; have := k.isLt; omega⟩ : Fin 32) : Dev nD) : Thread nD τ).loc main_arg0)
          (rowIx c r ⟨(1024 * n.val + k.val) % 256, Nat.mod_lt _ (by decide)⟩) := by
  have hn := n.isLt
  have hk := k.isLt
  refine (concatenate_ofFn_apply (t := S256x1024) (s₁ := S256x256) 1
    (fun j : Fin 4 => shapeCast S256x256 (blk (landed m ρ c) (kx n.val j.val)) shapeCasts_S1x256x256_S256x256)
    concatenates_S256x256_S256x256_S256x256_S256x256_S256x1024_d1 rfl 256 rfl (ix2 r k)
    (⟨k.val / 256, by omega⟩ : Fin 4) rfl (ix2 r (⟨k.val % 256, Nat.mod_lt _ (by decide)⟩ : Fin 256)) rfl ?_).trans ?_
  · intro b hb
    fin_cases b
    · rfl
    · exact absurd rfl hb
  · refine (slot_apply m ρ c _ r _).trans ?_
    have e1 : kx n.val (k.val / 256) = (⟨(1024 * n.val + k.val) / 256, by omega⟩ : Fin 32) := Fin.ext (by show (4 * n.val + k.val / 256) % 32 = _; dsimp only; omega)
    have e2 : (⟨k.val % 256, Nat.mod_lt _ (by decide)⟩ : Fin 256) = ⟨(1024 * n.val + k.val) % 256, Nat.mod_lt _ (by decide)⟩ := Fin.ext (by dsimp only; omega)
    dsimp only
    rw [e1, e2]

/-! ## The contraction, at the ideal instance -/

section AtIdeal

variable (m : (ℓ : Loc nD τ sig) → Buf (Elt Ideal) ℓ) (ρ : Dev nD → PrngReg)

/-- The argument, its columns laid end to end over the devices: row `256 c + r`, column `K`. -/
def xAt (c : Dev nD) (r : Fin 256) (K : Fin 8192) : EReal :=
  m ((((⟨K.val / 256, by have := K.isLt; omega⟩ : Fin 32) : Dev nD) : Thread nD τ).loc main_arg0) (rowIx c r ⟨K.val % 256, Nat.mod_lt _ (by decide)⟩)

/-- The weight of device `c`. -/
def wAt (c : Dev nD) (K : Fin 8192) (l : Fin 4096) : EReal :=
  m ((c : Thread nD τ).loc main_arg1) (ix2 K l : S8192x4096.Idx)

/-- The term of the contraction at `K`, zero past the end. -/
def term (c : Dev nD) (r : Fin 256) (l : Fin 4096) (K : ℕ) : EReal :=
  if h : K < 8192 then xAt m c r ⟨K, h⟩ * wAt m c ⟨K, h⟩ l else 0

theorem dims_point : dot_S256x1024_S1024x4096_S256x4096_1_0_0_1_n_n = DotDims.plain 256 1024 4096 := rfl

/-- A point's product: the terms `1024 n` to `1024 n + 1023`. -/
theorem product_apply (c : Dev nD) (n : Fin 8) (r : Fin 256) (l : Fin 4096) :
    k0_pay4 (F := Ideal) (blk (landed m ρ c) (kx n.val 0)) (blk (landed m ρ c) (kx n.val 1)) (blk (landed m ρ c) (kx n.val 2)) (blk (landed m ρ c) (kx n.val 3))
        (wstg m ρ c n.val) (ix2 r l : S256x4096.Idx)
      = ∑ k ∈ Finset.range 1024, term m c r l (1024 * n.val + k) := by
  unfold k0_pay4
  rw [dims_point, shapeCast_self]
  refine (Ideal.matmul_plain_apply (M := 256) (K := 1024) (N := 4096) none _ _ _ r l).trans ?_
  rw [constant_apply, Ideal.ofBits_zero_f32, zero_add, Finset.sum_range]
  refine Finset.sum_congr rfl fun k _ => ?_
  have hn := n.isLt
  have hk := k.isLt
  unfold term
  rw [dif_pos (by omega)]
  exact congrArg₂ (· * ·) (strip_apply m ρ c n r k) (wstg_apply m ρ c n k l)

/-- The accumulator after point `n`: the terms below `1024 (n + 1)`. -/
theorem acc_apply (c : Dev nD) (r : Fin 256) (l : Fin 4096) : ∀ n : ℕ, n < 8 →
    acc (F := Ideal) m ρ c n (ix2 r l : S256x4096.Idx) = ∑ K ∈ Finset.range (1024 * (n + 1)), term m c r l K
  | 0, _ => by
    refine (product_apply m ρ c 0 r l).trans (Finset.sum_congr rfl fun k _ => ?_)
    show term m c r l (1024 * 0 + k) = _
    rw [Nat.mul_zero, Nat.zero_add]
  | n + 1, h => by
    have ih := acc_apply c r l n (by omega)
    show k0_pay5 (F := Ideal) _ _ _ _ _ (acc (F := Ideal) m ρ c n) (ix2 r l) = _
    unfold k0_pay5
    rw [shapeCast_self, addf_apply, ih, Nat.mul_succ 1024 (n + 1), Finset.sum_range_add]
    exact congrArg _ (product_apply m ρ c ⟨n + 1, h⟩ r l)

/-- After the last point: the whole contraction. -/
theorem acc_last (c : Dev nD) (r : Fin 256) (l : Fin 4096) :
    acc (F := Ideal) m ρ c 7 (ix2 r l : S256x4096.Idx) = ∑ K : Fin 8192, xAt m c r K * wAt m c K l := by
  rw [acc_apply m ρ c r l 7 (by decide), Finset.sum_range]
  refine Finset.sum_congr rfl fun K _ => ?_
  unfold term
  exact dif_pos K.isLt

/-! ## The activation -/

/-- The exponential is never below zero. -/
theorem exp_nonneg (x : EReal) : 0 ≤ Ideal.exp x := by
  induction x with
  | bot => exact le_refl _
  | top => exact le_top
  | coe x => exact EReal.coe_nonneg.mpr (Real.exp_pos x).le

/-- One plus an exponential is not zero, so multiplying by its reciprocal is dividing by it. -/
theorem gate (y z : EReal) : y * Ideal.div 1 (1 + Ideal.exp (0 - z)) = Ideal.div y (1 + Ideal.exp (-z)) := by
  rw [zero_sub]
  have h : (1 + Ideal.exp (-z) : EReal) ≠ 0 :=
    (lt_of_lt_of_le zero_lt_one (le_add_of_nonneg_right (exp_nonneg _))).ne'
  unfold Ideal.div
  rw [if_neg h, if_neg h, one_mul]

/-- The clipped activation of a value. -/
def act (y : EReal) : EReal :=
  Ideal.div y (1 + Ideal.exp (-(min (Ideal.ofBits .f32 0x42700000#32) (max (Ideal.ofBits .f32 0xC2700000#32) y))))

theorem k0_pay1_apply (v : Vec Ideal S256x4096 .f32) (i : S256x4096.Idx) : k0_pay1 (F := Ideal) v i = act (v i) := by
  unfold k0_pay1
  rw [shapeCast_self]
  show v i * Ideal.div (Ideal.ofBits .f32 0x3F800000#32) (Ideal.ofBits .f32 0x3F800000#32 + Ideal.exp (Ideal.ofBits .f32 0x00000000#32
    - min (Ideal.ofBits .f32 0x42700000#32) (max (Ideal.ofBits .f32 0xC2700000#32) (v i)))) = _
  rw [Ideal.ofBits_one_f32, Ideal.ofBits_zero_f32]
  exact gate _ _

/-- The result of device `c`, by coordinates. -/
theorem outAt_apply (c : Dev nD) (r : Fin 256) (l : Fin 4096) :
    outAt (F := Ideal) m ρ c (ix2 r l : S256x4096.Idx) = act (∑ K : Fin 8192, xAt m c r K * wAt m c K l) := by
  unfold outAt
  rw [k0_pay1_apply, acc_last]

theorem whole_out : (cfg0.win (2 : Fin 3)).WholeAt (pt 7) := by decide +kernel

/-- The result array after the run holds the last point's block. -/
theorem finalA_out (c : Dev nD) : finalA m ρ c (2 : Fin 3) = outAt (F := Ideal) m ρ c :=
  Dat.arrAt_eq_of_after_last (dats (F := Ideal) m ρ 0 c) (2 : Fin 3) (pt 7) whole_out _ fun _ => rfl

/-! ## The reference -/

/-- The reference's result, of its arguments. -/
def refOut (X : Vec Ideal Cert.ReferenceIdeal.S8192x8192 .bf16) (W : Vec Ideal Cert.ReferenceIdeal.S8192x4096 .bf16) : Vec Ideal Cert.ReferenceIdeal.S8192x4096 .f32 :=
  fun i => act (∑ K : Fin 8192, X (ix2 (i 0 : Fin 8192) K) * W (ix2 K (i 1 : Fin 4096)))

theorem dims_reference :
    Cert.ReferenceIdeal.dot_S8192x8192_S8192x4096_S8192x4096_1_0_0_1_n_n = DotDims.plain 8192 8192 4096 := rfl

/-- The reference's product at an index. -/
theorem whole_product (X : Vec Ideal Cert.ReferenceIdeal.S8192x8192 .bf16) (W : Vec Ideal Cert.ReferenceIdeal.S8192x4096 .bf16) (i : Cert.ReferenceIdeal.S8192x4096.Idx) :
    Host.dotGeneral (F := Ideal) (DotDims.plain 8192 8192 4096) none (extf .f32 X Cert.ReferenceIdeal.Gen.bitsLt_bf16_f32) (extf .f32 W Cert.ReferenceIdeal.Gen.bitsLt_bf16_f32) i
      = ∑ K : Fin 8192, X (ix2 (i 0 : Fin 8192) K) * W (ix2 K (i 1 : Fin 4096)) := by
  obtain ⟨r, l, rfl⟩ : ∃ (r : Fin 8192) (l : Fin 4096), i = (ix2 r l : Cert.ReferenceIdeal.S8192x4096.Idx) := ⟨i 0, i 1, eq_ix2 i⟩
  exact StackMember.dotGeneral_plain_apply none _ _ r l

/-- The reference's operations composed: the whole product, each entry through the activation. -/
theorem run_reference (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v8)
          = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine (θ_run Cert.ReferenceIdeal.defs _ _).mono (fun r h c => ⟨(h c).1.trans ?_, (h c).2⟩) (Cert.ReferenceIdeal.Value.run (F := Ideal) m' g')
  funext i
  rw [dims_reference, hostDivf_apply, addf_apply]
  unfold refOut act
  rw [← whole_product]
  generalize Host.dotGeneral (F := Ideal) (φ₁ := .f32) (φ₂ := .f32) (DotDims.plain 8192 8192 4096) none _ _ = Y
  show Ideal.div (Y i) (broadcastInDim Cert.ReferenceIdeal.S8192x4096 ![] _ (constant (F := Ideal) Cert.ReferenceIdeal.S_ .f32 0x3F800000#32) i
    + Ideal.exp (-(min (broadcastInDim Cert.ReferenceIdeal.S8192x4096 ![] _ (constant (F := Ideal) Cert.ReferenceIdeal.S_ .f32 0x42700000#32) i)
      (max (broadcastInDim Cert.ReferenceIdeal.S8192x4096 ![] _ (constant (F := Ideal) Cert.ReferenceIdeal.S_ .f32 0xC2700000#32) i) (Y i))))) = _
  have hb : ∀ b : BitVec 32, broadcastInDim Cert.ReferenceIdeal.S8192x4096 ![] Cert.ReferenceIdeal.Gen.bcast_S_S8192x4096
      (constant (F := Ideal) Cert.ReferenceIdeal.S_ .f32 b) i = Ideal.ofBits .f32 b := fun b => broadcastInDim_scalar_apply _ _ i
  rw [hb, hb, hb, Ideal.ofBits_one_f32]

/-- The results of the devices are the blocks of rows of the reference's result. -/
theorem result_block (X : Vec Ideal Cert.ReferenceIdeal.S8192x8192 .bf16) (W : Vec Ideal Cert.ReferenceIdeal.S8192x4096 .bf16)
    (hX : ∀ c : Dev nD, m ((c : Thread nD τ).loc main_arg0) = Layout.block ⟨2, ![8192, 256]⟩ ⟨2, ![8192, 8192]⟩ 1 32 c X)
    (hW : ∀ c : Dev nD, m ((c : Thread nD τ).loc main_arg1) = W) (c : Dev nD) :
    finalA m ρ c (2 : Fin 3) = Layout.block ⟨2, ![256, 4096]⟩ ⟨2, ![8192, 4096]⟩ 0 32 c (refOut X W) := by
  rw [finalA_out]
  funext i
  obtain ⟨r, l, rfl⟩ : ∃ (r : Fin 256) (l : Fin 4096), i = (ix2 r l : S256x4096.Idx) := ⟨i 0, i 1, eq_ix2 i⟩
  refine (outAt_apply m ρ c r l).trans ?_
  refine congrArg act (Finset.sum_congr rfl fun K _ => congrArg₂ (· * ·) ?_ ?_)
  · unfold xAt
    rw [hX]
    refine congrArg X (funext fun a => Fin.ext ?_)
    have hK := K.isLt
    fin_cases a
    · show 256 * c.val + r.val = c.val * 256 + r.val
      omega
    · show K.val / 256 * 256 + K.val % 256 = K.val
      omega
  · unfold wAt
    rw [hW]
    refine congrArg W (funext fun a => Fin.ext ?_)
    fin_cases a <;> rfl

end AtIdeal

end Cert.KernelIdeal.Exchange

end
-- ==== Proof.lean ====
/-
# The certificate's claims

Each claim from the run of `KernelIdeal` over any float values (Proof/Run.lean), its result at the ideal instance
(Proof/Value.lean) and the reference's run (Proof/Gen/ReferenceIdeal/Run.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- `KernelIdeal` over any float values: the argument arrays kept and every counter at zero. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.Exchange.finalA_x m ρ c), (h.1 c (1 : Fin 3)).trans (Cert.KernelIdeal.Exchange.finalA_w m ρ c)⟩, h.2⟩)
    (Cert.KernelIdeal.Exchange.run_main m ρ)

/-- The two programs' kernels are the same text (no operation was rewritten). -/
theorem defs₀_eq : Cert.Kernel.defs₀ (F := Bits) = Cert.KernelIdeal.defs₀ (F := Bits) := by
  unfold Cert.Kernel.defs₀ Cert.KernelIdeal.defs₀
  congr 1
  funext l x
  match l, x with
  | 0, x => rfl

theorem defs_eq : Cert.Kernel.defs (F := Bits) = Cert.KernelIdeal.defs (F := Bits) :=
  congrArg (Idealize.ShloMosaic.Pipeline.defs Cert.Kernel.pcfgs) defs₀_eq

/-- `Kernel` at `Bits`: its run is `KernelIdeal`'s at that instance. -/
theorem frame_kernel : Cert.quiescent_Kernel := fun m ρ _ => by
  rw [defs_eq]
  exact kept (F := Bits) m ρ

/-- `KernelIdeal` at `Ideal`. -/
theorem frame_kernelIdeal : Cert.quiescent_KernelIdeal := fun m ρ _ => kept (F := Ideal) m ρ

/-- The reference is a straight line of host operations that declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- No operation was rewritten. -/
theorem preserves : Cert.preserves_Kernel_KernelIdeal := trivial

/-- Every device's result is its block of rows of the reference's result, at the ideal instance. -/
theorem algebraic : Cert.algebraic_KernelIdeal_ReferenceIdeal := fun m g m' g' _ hb =>
  ⟨_,
    (θ_run Cert.KernelIdeal.defs _ _).mono
      (fun _ h c => ⟨(h.1 c (2 : Fin 3)).trans (Cert.KernelIdeal.Exchange.result_block m g _ _ (fun c => (hb c).1) (fun c => (hb c).2) c),
        (h.1 c (0 : Fin 3)).trans (Cert.KernelIdeal.Exchange.finalA_x m g c), (h.1 c (1 : Fin 3)).trans (Cert.KernelIdeal.Exchange.finalA_w m g c)⟩)
      (Cert.KernelIdeal.Exchange.run_main m g),
    (θ_run Cert.ReferenceIdeal.defs _ _).mono (fun _ h => h 0) (Cert.KernelIdeal.Exchange.run_reference m' g')⟩

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
